-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v226) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_ReferenceIdeal_pre_finite_weights (hKernelIdeal := hKernelIdeal) (hReferenceIdeal := hReferenceIdeal) (hPre_finite_weights := hPre_finite_weights)
-- ==== Pre_finite_weights.lean ====
abbrev S4x3x256x256 : Shape := ⟨4, ![4, 3, 256, 256]⟩
abbrev S4x21x32x32 : Shape := ⟨4, ![4, 21, 32, 32]⟩
abbrev S4x64x64x64 : Shape := ⟨4, ![4, 64, 64, 64]⟩
abbrev S1x131x1x1 : Shape := ⟨4, ![1, 131, 1, 1]⟩
abbrev S1x128x1x1 : Shape := ⟨4, ![1, 128, 1, 1]⟩
abbrev S_ : Shape := ⟨0, ![]⟩

class Facts : Prop where
  slices_S1x131x1x1_S1x128x1x1_0_3_0_0 : S1x131x1x1.Slices ![0, 3, 0, 0] S1x128x1x1
  bcast_S_S1x128x1x1 : S_.BroadcastsInDim S1x128x1x1 (![] : Fin 0 → Fin S1x128x1x1.rank)
  reducesTo_S1x128x1x1_S_d0_1_2_3 : S1x128x1x1.ReducesTo [0, 1, 2, 3] S_
  h_S_ : 0 < S_.numel

variable [Facts]

def fn {F : FTy → Type} [FloatOps F] (main_arg0 : FVec F S4x3x256x256 .f32) (main_arg1 : FVec F S4x21x32x32 .f32) (main_arg2 : FVec F S4x64x64x64 .f32) (main_arg3 : FVec F S4x64x64x64 .f32) (main_arg4 : FVec F S1x131x1x1 .f32) : IVec S_ 1 :=
  let main_v0 : FVec F S1x128x1x1 .f32 := (extractStridedSlice S1x128x1x1 ![0, 3, 0, 0] · slices_S1x131x1x1_S1x128x1x1_0_3_0_0) main_arg4
  let main_v1 : FVec F S1x128x1x1 .f32 := Host.absf main_v0
  let main_cst : FVec F S_ .f32 := constant S_ .f32 0x7F800000#32
  let main_v2 : FVec F S1x128x1x1 .f32 := broadcastInDim S1x128x1x1 ![] bcast_S_S1x128x1x1 main_cst
  let main_v3 : IVec S1x128x1x1 1 := cmpf .olt main_v1 main_v2
  let main_c : IVec S_ 1 := constantI S_ 1 1#1
  let main_v4 : IVec S_ 1 := (fun x v => Host.reduce IntOp.andi x v reducesTo_S1x128x1x1_S_d0_1_2_3 h_S_) main_v3 main_c
  main_v4
-- ==== Kernel.lean ====
abbrev S4x3x256x256 : Shape := ⟨4, ![4, 3, 256, 256]⟩
abbrev S4x21x32x32 : Shape := ⟨4, ![4, 21, 32, 32]⟩
abbrev S4x64x64x64 : Shape := ⟨4, ![4, 64, 64, 64]⟩
abbrev S1x131x1x1 : Shape := ⟨4, ![1, 131, 1, 1]⟩
abbrev S262x256 : Shape := ⟨2, ![262, 256]⟩
abbrev S131 : Shape := ⟨1, ![131]⟩
abbrev S3 : Shape := ⟨1, ![3]⟩
abbrev S3x1x1 : Shape := ⟨3, ![3, 1, 1]⟩
abbrev S64 : Shape := ⟨1, ![64]⟩
abbrev S64x1x1 : Shape := ⟨3, ![64, 1, 1]⟩
abbrev S262x32 : Shape := ⟨2, ![262, 32]⟩
abbrev S_ : Shape := ⟨0, ![]⟩
abbrev S262x64 : Shape := ⟨2, ![262, 64]⟩
abbrev S4x32x21x32 : Shape := ⟨4, ![4, 32, 21, 32]⟩
abbrev S4x32x672 : Shape := ⟨3, ![4, 32, 672]⟩
abbrev S32x262 : Shape := ⟨2, ![32, 262]⟩
abbrev S64x262 : Shape := ⟨2, ![64, 262]⟩
abbrev S256x262 : Shape := ⟨2, ![256, 262]⟩
abbrev S4x21x256x256 : Shape := ⟨4, ![4, 21, 256, 256]⟩
abbrev S1x3x256x256 : Shape := ⟨4, ![1, 3, 256, 256]⟩
abbrev S1x32x672 : Shape := ⟨3, ![1, 32, 672]⟩
abbrev S1x64x64x64 : Shape := ⟨4, ![1, 64, 64, 64]⟩
abbrev S1x21x256x256 : Shape := ⟨4, ![1, 21, 256, 256]⟩
abbrev S49x256x256 : Shape := ⟨3, ![49, 256, 256]⟩
abbrev S21x262x262 : Shape := ⟨3, ![21, 262, 262]⟩
abbrev S256x256 : Shape := ⟨2, ![256, 256]⟩
abbrev S3x256x256 : Shape := ⟨3, ![3, 256, 256]⟩
abbrev S64x64x64 : Shape := ⟨3, ![64, 64, 64]⟩
abbrev S64x64 : Shape := ⟨2, ![64, 64]⟩
abbrev S262x262 : Shape := ⟨2, ![262, 262]⟩
abbrev S32x672 : Shape := ⟨2, ![32, 672]⟩
abbrev S262x672 : Shape := ⟨2, ![262, 672]⟩
abbrev S1x262x262 : Shape := ⟨3, ![1, 262, 262]⟩
abbrev S1x256x256 : Shape := ⟨3, ![1, 256, 256]⟩
abbrev S8x256 : Shape := ⟨2, ![8, 256]⟩
abbrev S8x262 : Shape := ⟨2, ![8, 262]⟩
abbrev S1x8x256 : Shape := ⟨3, ![1, 8, 256]⟩
abbrev S1x1x8x256 : Shape := ⟨4, ![1, 1, 8, 256]⟩
abbrev S4x21x65536 : Shape := ⟨3, ![4, 21, 65536]⟩
abbrev S4x65536x21 : Shape := ⟨3, ![4, 65536, 21]⟩

abbrev nBuf : Space → Nat
  | .hbm => 121
  | .vmem => 22
  | .smem => 0
  | _ => 0

abbrev bufTy : (tb : Table) → Fin (tcTables nBuf tb) → BufTy
  | .hbm, ⟨0, _⟩ => ⟨S4x3x256x256, .f32⟩
  | .hbm, ⟨1, _⟩ => ⟨S4x21x32x32, .f32⟩
  | .hbm, ⟨2, _⟩ => ⟨S4x64x64x64, .f32⟩
  | .hbm, ⟨3, _⟩ => ⟨S4x64x64x64, .f32⟩
  | .hbm, ⟨4, _⟩ => ⟨S1x131x1x1, .f32⟩
  | .hbm, ⟨5, _⟩ => ⟨S262x256, .f32⟩
  | .hbm, ⟨6, _⟩ => ⟨S131, .f32⟩
  | .hbm, ⟨7, _⟩ => ⟨S3, .f32⟩
  | .hbm, ⟨8, _⟩ => ⟨S3x1x1, .f32⟩
  | .hbm, ⟨9, _⟩ => ⟨S64, .f32⟩
  | .hbm, ⟨10, _⟩ => ⟨S64x1x1, .f32⟩
  | .hbm, ⟨11, _⟩ => ⟨S64, .f32⟩
  | .hbm, ⟨12, _⟩ => ⟨S64x1x1, .f32⟩
  | .hbm, ⟨13, _⟩ => ⟨S262x32, .i32⟩
  | .hbm, ⟨14, _⟩ => ⟨S_, .i32⟩
  | .hbm, ⟨15, _⟩ => ⟨S262x32, .i32⟩
  | .hbm, ⟨16, _⟩ => ⟨S262x32, .i32⟩
  | .hbm, ⟨17, _⟩ => ⟨S262x32, .i32⟩
  | .hbm, ⟨18, _⟩ => ⟨S_, .i32⟩
  | .hbm, ⟨19, _⟩ => ⟨S262x32, .i32⟩
  | .hbm, ⟨20, _⟩ => ⟨S262x32, .i32⟩
  | .hbm, ⟨21, _⟩ => ⟨S_, .i32⟩
  | .hbm, ⟨22, _⟩ => ⟨S262x32, .i32⟩
  | .hbm, ⟨23, _⟩ => ⟨S262x32, .i32⟩
  | .hbm, ⟨24, _⟩ => ⟨S_, .i32⟩
  | .hbm, ⟨25, _⟩ => ⟨S262x32, .i32⟩
  | .hbm, ⟨26, _⟩ => ⟨S262x32, .i32⟩
  | .hbm, ⟨27, _⟩ => ⟨S_, .i32⟩
  | .hbm, ⟨28, _⟩ => ⟨S262x32, .i32⟩
  | .hbm, ⟨29, _⟩ => ⟨S262x32, .i32⟩
  | .hbm, ⟨30, _⟩ => ⟨S_, .i32⟩
  | .hbm, ⟨31, _⟩ => ⟨S262x32, .i32⟩
  | .hbm, ⟨32, _⟩ => ⟨S262x32, .i32⟩
  | .hbm, ⟨33, _⟩ => ⟨S262x32, .i32⟩
  | .hbm, ⟨34, _⟩ => ⟨S262x32, .f32⟩
  | .hbm, ⟨35, _⟩ => ⟨S_, .f32⟩
  | .hbm, ⟨36, _⟩ => ⟨S262x32, .f32⟩
  | .hbm, ⟨37, _⟩ => ⟨S262x32, .f32⟩
  | .hbm, ⟨38, _⟩ => ⟨S262x32, .i1⟩
  | .hbm, ⟨39, _⟩ => ⟨S_, .f32⟩
  | .hbm, ⟨40, _⟩ => ⟨S262x32, .f32⟩
  | .hbm, ⟨41, _⟩ => ⟨S262x32, .f32⟩
  | .hbm, ⟨42, _⟩ => ⟨S_, .f32⟩
  | .hbm, ⟨43, _⟩ => ⟨S_, .f32⟩
  | .hbm, ⟨44, _⟩ => ⟨S262x32, .f32⟩
  | .hbm, ⟨45, _⟩ => ⟨S262x32, .f32⟩
  | .hbm, ⟨46, _⟩ => ⟨S262x32, .i1⟩
  | .hbm, ⟨47, _⟩ => ⟨S_, .f32⟩
  | .hbm, ⟨48, _⟩ => ⟨S_, .f32⟩
  | .hbm, ⟨49, _⟩ => ⟨S262x32, .f32⟩
  | .hbm, ⟨50, _⟩ => ⟨S262x32, .f32⟩
  | .hbm, ⟨51, _⟩ => ⟨S262x32, .f32⟩
  | .hbm, ⟨52, _⟩ => ⟨S_, .i32⟩
  | .hbm, ⟨53, _⟩ => ⟨S262x32, .i32⟩
  | .hbm, ⟨54, _⟩ => ⟨S262x32, .i1⟩
  | .hbm, ⟨55, _⟩ => ⟨S_, .i32⟩
  | .hbm, ⟨56, _⟩ => ⟨S262x32, .i32⟩
  | .hbm, ⟨57, _⟩ => ⟨S262x32, .i1⟩
  | .hbm, ⟨58, _⟩ => ⟨S262x32, .i1⟩
  | .hbm, ⟨59, _⟩ => ⟨S_, .f32⟩
  | .hbm, ⟨60, _⟩ => ⟨S_, .f32⟩
  | .hbm, ⟨61, _⟩ => ⟨S262x32, .f32⟩
  | .hbm, ⟨62, _⟩ => ⟨S262x32, .f32⟩
  | .hbm, ⟨63, _⟩ => ⟨S262x64, .i32⟩
  | .hbm, ⟨64, _⟩ => ⟨S_, .i32⟩
  | .hbm, ⟨65, _⟩ => ⟨S262x64, .i32⟩
  | .hbm, ⟨66, _⟩ => ⟨S262x64, .i32⟩
  | .hbm, ⟨67, _⟩ => ⟨S262x64, .i32⟩
  | .hbm, ⟨68, _⟩ => ⟨S_, .i32⟩
  | .hbm, ⟨69, _⟩ => ⟨S262x64, .i32⟩
  | .hbm, ⟨70, _⟩ => ⟨S262x64, .i32⟩
  | .hbm, ⟨71, _⟩ => ⟨S_, .i32⟩
  | .hbm, ⟨72, _⟩ => ⟨S262x64, .i32⟩
  | .hbm, ⟨73, _⟩ => ⟨S262x64, .i32⟩
  | .hbm, ⟨74, _⟩ => ⟨S_, .i32⟩
  | .hbm, ⟨75, _⟩ => ⟨S262x64, .i32⟩
  | .hbm, ⟨76, _⟩ => ⟨S262x64, .i32⟩
  | .hbm, ⟨77, _⟩ => ⟨S_, .i32⟩
  | .hbm, ⟨78, _⟩ => ⟨S262x64, .i32⟩
  | .hbm, ⟨79, _⟩ => ⟨S262x64, .i32⟩
  | .hbm, ⟨80, _⟩ => ⟨S_, .i32⟩
  | .hbm, ⟨81, _⟩ => ⟨S262x64, .i32⟩
  | .hbm, ⟨82, _⟩ => ⟨S262x64, .i32⟩
  | .hbm, ⟨83, _⟩ => ⟨S262x64, .i32⟩
  | .hbm, ⟨84, _⟩ => ⟨S262x64, .f32⟩
  | .hbm, ⟨85, _⟩ => ⟨S_, .f32⟩
  | .hbm, ⟨86, _⟩ => ⟨S262x64, .f32⟩
  | .hbm, ⟨87, _⟩ => ⟨S262x64, .f32⟩
  | .hbm, ⟨88, _⟩ => ⟨S262x64, .i1⟩
  | .hbm, ⟨89, _⟩ => ⟨S_, .f32⟩
  | .hbm, ⟨90, _⟩ => ⟨S262x64, .f32⟩
  | .hbm, ⟨91, _⟩ => ⟨S262x64, .f32⟩
  | .hbm, ⟨92, _⟩ => ⟨S_, .f32⟩
  | .hbm, ⟨93, _⟩ => ⟨S_, .f32⟩
  | .hbm, ⟨94, _⟩ => ⟨S262x64, .f32⟩
  | .hbm, ⟨95, _⟩ => ⟨S262x64, .f32⟩
  | .hbm, ⟨96, _⟩ => ⟨S262x64, .i1⟩
  | .hbm, ⟨97, _⟩ => ⟨S_, .f32⟩
  | .hbm, ⟨98, _⟩ => ⟨S_, .f32⟩
  | .hbm, ⟨99, _⟩ => ⟨S262x64, .f32⟩
  | .hbm, ⟨100, _⟩ => ⟨S262x64, .f32⟩
  | .hbm, ⟨101, _⟩ => ⟨S262x64, .f32⟩
  | .hbm, ⟨102, _⟩ => ⟨S_, .i32⟩
  | .hbm, ⟨103, _⟩ => ⟨S262x64, .i32⟩
  | .hbm, ⟨104, _⟩ => ⟨S262x64, .i1⟩
  | .hbm, ⟨105, _⟩ => ⟨S_, .i32⟩
  | .hbm, ⟨106, _⟩ => ⟨S262x64, .i32⟩
  | .hbm, ⟨107, _⟩ => ⟨S262x64, .i1⟩
  | .hbm, ⟨108, _⟩ => ⟨S262x64, .i1⟩
  | .hbm, ⟨109, _⟩ => ⟨S_, .f32⟩
  | .hbm, ⟨110, _⟩ => ⟨S_, .f32⟩
  | .hbm, ⟨111, _⟩ => ⟨S262x64, .f32⟩
  | .hbm, ⟨112, _⟩ => ⟨S262x64, .f32⟩
  | .hbm, ⟨113, _⟩ => ⟨S4x32x21x32, .f32⟩
  | .hbm, ⟨114, _⟩ => ⟨S4x32x672, .f32⟩
  | .hbm, ⟨115, _⟩ => ⟨S32x262, .f32⟩
  | .hbm, ⟨116, _⟩ => ⟨S64x262, .f32⟩
  | .hbm, ⟨117, _⟩ => ⟨S256x262, .f32⟩
  | .hbm, ⟨118, _⟩ => ⟨S4x21x256x256, .f32⟩
  | .hbm, ⟨119, _⟩ => ⟨S4x21x65536, .f32⟩
  | .hbm, ⟨120, _⟩ => ⟨S4x65536x21, .f32⟩
  | .local _ .vmem, ⟨0, _⟩ => ⟨S1x3x256x256, .f32⟩
  | .local _ .vmem, ⟨1, _⟩ => ⟨S1x3x256x256, .f32⟩
  | .local _ .vmem, ⟨2, _⟩ => ⟨S1x32x672, .f32⟩
  | .local _ .vmem, ⟨3, _⟩ => ⟨S1x32x672, .f32⟩
  | .local _ .vmem, ⟨4, _⟩ => ⟨S1x64x64x64, .f32⟩
  | .local _ .vmem, ⟨5, _⟩ => ⟨S1x64x64x64, .f32⟩
  | .local _ .vmem, ⟨6, _⟩ => ⟨S1x64x64x64, .f32⟩
  | .local _ .vmem, ⟨7, _⟩ => ⟨S1x64x64x64, .f32⟩
  | .local _ .vmem, ⟨8, _⟩ => ⟨S3x1x1, .f32⟩
  | .local _ .vmem, ⟨9, _⟩ => ⟨S64x1x1, .f32⟩
  | .local _ .vmem, ⟨10, _⟩ => ⟨S64x1x1, .f32⟩
  | .local _ .vmem, ⟨11, _⟩ => ⟨S262x32, .f32⟩
  | .local _ .vmem, ⟨12, _⟩ => ⟨S32x262, .f32⟩
  | .local _ .vmem, ⟨13, _⟩ => ⟨S262x64, .f32⟩
  | .local _ .vmem, ⟨14, _⟩ => ⟨S64x262, .f32⟩
  | .local _ .vmem, ⟨15, _⟩ => ⟨S262x256, .f32⟩
  | .local _ .vmem, ⟨16, _⟩ => ⟨S256x262, .f32⟩
  | .local _ .vmem, ⟨17, _⟩ => ⟨S1x21x256x256, .f32⟩
  | .local _ .vmem, ⟨18, _⟩ => ⟨S1x21x256x256, .f32⟩
  | .local _ .vmem, ⟨19, _⟩ => ⟨S49x256x256, .f32⟩
  | .local _ .vmem, ⟨20, _⟩ => ⟨S21x262x262, .f32⟩
  | .local _ .vmem, ⟨21, _⟩ => ⟨S256x256, .f32⟩
  | _, _ => ⟨S4x3x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c_0 : Ref sig .tc := ⟨.hbm, 18, rfl⟩
abbrev main_v11 : Ref sig .tc := ⟨.hbm, 19, rfl⟩
abbrev main_v12 : Ref sig .tc := ⟨.hbm, 20, rfl⟩
abbrev main_c_1 : Ref sig .tc := ⟨.hbm, 21, rfl⟩
abbrev main_v13 : Ref sig .tc := ⟨.hbm, 22, rfl⟩
abbrev main_v14 : Ref sig .tc := ⟨.hbm, 23, rfl⟩
abbrev main_c_2 : Ref sig .tc := ⟨.hbm, 24, rfl⟩
abbrev main_v15 : Ref sig .tc := ⟨.hbm, 25, rfl⟩
abbrev main_v16 : Ref sig .tc := ⟨.hbm, 26, rfl⟩
abbrev main_c_3 : Ref sig .tc := ⟨.hbm, 27, rfl⟩
abbrev main_v17 : Ref sig .tc := ⟨.hbm, 28, rfl⟩
abbrev main_v18 : Ref sig .tc := ⟨.hbm, 29, rfl⟩
abbrev main_c_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_6 : Ref sig .tc := ⟨.hbm, 39, rfl⟩
abbrev main_v26 : Ref sig .tc := ⟨.hbm, 40, rfl⟩
abbrev main_v27 : Ref sig .tc := ⟨.hbm, 41, rfl⟩
abbrev main_cst_7 : Ref sig .tc := ⟨.hbm, 42, rfl⟩
abbrev main_call0_v0 : Ref sig .tc := ⟨.hbm, 43, rfl⟩
abbrev main_call0_v1 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_call1_v0 : Ref sig .tc := ⟨.hbm, 48, rfl⟩
abbrev main_call1_v1 : Ref sig .tc := ⟨.hbm, 49, rfl⟩
abbrev main_v30 : Ref sig .tc := ⟨.hbm, 50, rfl⟩
abbrev main_v31 : Ref sig .tc := ⟨.hbm, 51, rfl⟩
abbrev main_c_9 : Ref sig .tc := ⟨.hbm, 52, rfl⟩
abbrev main_v32 : Ref sig .tc := ⟨.hbm, 53, rfl⟩
abbrev main_v33 : Ref sig .tc := ⟨.hbm, 54, rfl⟩
abbrev main_c_10 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst_11 : Ref sig .tc := ⟨.hbm, 59, rfl⟩
abbrev main_call2_v0 : Ref sig .tc := ⟨.hbm, 60, rfl⟩
abbrev main_call2_v1 : Ref sig .tc := ⟨.hbm, 61, rfl⟩
abbrev main_v37 : Ref sig .tc := ⟨.hbm, 62, rfl⟩
abbrev main_v38 : Ref sig .tc := ⟨.hbm, 63, rfl⟩
abbrev main_c_12 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_c_13 : Ref sig .tc := ⟨.hbm, 68, rfl⟩
abbrev main_v42 : Ref sig .tc := ⟨.hbm, 69, rfl⟩
abbrev main_v43 : Ref sig .tc := ⟨.hbm, 70, rfl⟩
abbrev main_c_14 : Ref sig .tc := ⟨.hbm, 71, rfl⟩
abbrev main_v44 : Ref sig .tc := ⟨.hbm, 72, rfl⟩
abbrev main_v45 : Ref sig .tc := ⟨.hbm, 73, rfl⟩
abbrev main_c_15 : Ref sig .tc := ⟨.hbm, 74, rfl⟩
abbrev main_v46 : Ref sig .tc := ⟨.hbm, 75, rfl⟩
abbrev main_v47 : Ref sig .tc := ⟨.hbm, 76, rfl⟩
abbrev main_c_16 : Ref sig .tc := ⟨.hbm, 77, rfl⟩
abbrev main_v48 : Ref sig .tc := ⟨.hbm, 78, rfl⟩
abbrev main_v49 : Ref sig .tc := ⟨.hbm, 79, rfl⟩
abbrev main_c_17 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_cst_18 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_cst_19 : Ref sig .tc := ⟨.hbm, 89, rfl⟩
abbrev main_v57 : Ref sig .tc := ⟨.hbm, 90, rfl⟩
abbrev main_v58 : Ref sig .tc := ⟨.hbm, 91, rfl⟩
abbrev main_cst_20 : Ref sig .tc := ⟨.hbm, 92, rfl⟩
abbrev main_call3_v0 : Ref sig .tc := ⟨.hbm, 93, rfl⟩
abbrev main_call3_v1 : Ref sig .tc := ⟨.hbm, 94, rfl⟩
abbrev main_v59 : Ref sig .tc := ⟨.hbm, 95, rfl⟩
abbrev main_v60 : Ref sig .tc := ⟨.hbm, 96, rfl⟩
abbrev main_cst_21 : Ref sig .tc := ⟨.hbm, 97, rfl⟩
abbrev main_call4_v0 : Ref sig .tc := ⟨.hbm, 98, rfl⟩
abbrev main_call4_v1 : Ref sig .tc := ⟨.hbm, 99, rfl⟩
abbrev main_v61 : Ref sig .tc := ⟨.hbm, 100, rfl⟩
abbrev main_v62 : Ref sig .tc := ⟨.hbm, 101, rfl⟩
abbrev main_c_22 : Ref sig .tc := ⟨.hbm, 102, rfl⟩
abbrev main_v63 : Ref sig .tc := ⟨.hbm, 103, rfl⟩
abbrev main_v64 : Ref sig .tc := ⟨.hbm, 104, rfl⟩
abbrev main_c_23 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_cst_24 : Ref sig .tc := ⟨.hbm, 109, rfl⟩
abbrev main_call5_v0 : Ref sig .tc := ⟨.hbm, 110, rfl⟩
abbrev main_call5_v1 : Ref sig .tc := ⟨.hbm, 111, rfl⟩
abbrev main_v68 : Ref sig .tc := ⟨.hbm, 112, rfl⟩
abbrev main_v69 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32_416 : BitVec 32 := 0#32
  let c21_i32 : BitVec 32 := 21#32
  let v1014 : BitVec 32 := Scalar.addi c0_i32_416 c21_i32
  let c1_i32_417 : BitVec 32 := 1#32
  ⟨c0_i32_416, v1014, c1_i32_417⟩
def k0_off1 (k0_t1 : Fin k0_t1_loop.trips) : Fin 3 → Nat :=
  let c0_i32_416 : BitVec 32 := 0#32
  let c1_i32_417 : BitVec 32 := 1#32
  let arg18 : BitVec 32 := Scf.iv c0_i32_416 c1_i32_417 k0_t1
  let v1015 : Index := Scalar.indexCast arg18
  let c0_419 : Index := 0#32
  let c0_420 : Index := 0#32
  ![v1015.toNat, 0, 0]
def k0_off2 (k0_t1 : Fin k0_t1_loop.trips) : Fin 4 → Nat :=
  let c0_571 : Index := 0#32
  let c0_i32_416 : BitVec 32 := 0#32
  let c1_i32_417 : BitVec 32 := 1#32
  let arg18 : BitVec 32 := Scf.iv c0_i32_416 c1_i32_417 k0_t1
  let v1273 : Index := Scalar.indexCast arg18
  let c0_572 : Index := 0#32
  let c0_573 : Index := 0#32
  ![0, v1273.toNat, 0, 0]
def k0_off3 (k0_t1 : Fin k0_t1_loop.trips) : Fin 4 → Nat :=
  let c0_724 : Index := 0#32
  let c0_i32_416 : BitVec 32 := 0#32
  let c1_i32_417 : BitVec 32 := 1#32
  let arg18 : BitVec 32 := Scf.iv c0_i32_416 c1_i32_417 k0_t1
  let v1532 : Index := Scalar.indexCast arg18
  let c8_725 : Index := 8#32
  let c0_726 : Index := 0#32
  ![0, v1532.toNat, 8, 0]
def k0_off4 (k0_t1 : Fin k0_t1_loop.trips) : Fin 4 → Nat :=
  let c0_877 : Index := 0#32
  let c0_i32_416 : BitVec 32 := 0#32
  let c1_i32_417 : BitVec 32 := 1#32
  let arg18 : BitVec 32 := Scf.iv c0_i32_416 c1_i32_417 k0_t1
  let v1791 : Index := Scalar.indexCast arg18
  let c16_878 : Index := 16#32
  let c0_879 : Index := 0#32
  ![0, v1791.toNat, 16, 0]
def k0_off5 (k0_t1 : Fin k0_t1_loop.trips) : Fin 4 → Nat :=
  let c0_1030 : Index := 0#32
  let c0_i32_416 : BitVec 32 := 0#32
  let c1_i32_417 : BitVec 32 := 1#32
  let arg18 : BitVec 32 := Scf.iv c0_i32_416 c1_i32_417 k0_t1
  let v2050 : Index := Scalar.indexCast arg18
  let c24_1031 : Index := 24#32
  let c0_1032 : Index := 0#32
  ![0, v2050.toNat, 24, 0]
def k0_off6 (k0_t1 : Fin k0_t1_loop.trips) : Fin 4 → Nat :=
  let c0_1183 : Index := 0#32
  let c0_i32_416 : BitVec 32 := 0#32
  let c1_i32_417 : BitVec 32 := 1#32
  let arg18 : BitVec 32 := Scf.iv c0_i32_416 c1_i32_417 k0_t1
  let v2309 : Index := Scalar.indexCast arg18
  let c32_1184 : Index := 32#32
  let c0_1185 : Index := 0#32
  ![0, v2309.toNat, 32, 0]
def k0_off7 (k0_t1 : Fin k0_t1_loop.trips) : Fin 4 → Nat :=
  let c0_1336 : Index := 0#32
  let c0_i32_416 : BitVec 32 := 0#32
  let c1_i32_417 : BitVec 32 := 1#32
  let arg18 : BitVec 32 := Scf.iv c0_i32_416 c1_i32_417 k0_t1
  let v2568 : Index := Scalar.indexCast arg18
  let c40_1337 : Index := 40#32
  let c0_1338 : Index := 0#32
  ![0, v2568.toNat, 40, 0]
def k0_off8 (k0_t1 : Fin k0_t1_loop.trips) : Fin 4 → Nat :=
  let c0_1489 : Index := 0#32
  let c0_i32_416 : BitVec 32 := 0#32
  let c1_i32_417 : BitVec 32 := 1#32
  let arg18 : BitVec 32 := Scf.iv c0_i32_416 c1_i32_417 k0_t1
  let v2827 : Index := Scalar.indexCast arg18
  let c48_1490 : Index := 48#32
  let c0_1491 : Index := 0#32
  ![0, v2827.toNat, 48, 0]
def k0_off9 (k0_t1 : Fin k0_t1_loop.trips) : Fin 4 → Nat :=
  let c0_1641 : Index := 0#32
  let c0_i32_416 : BitVec 32 := 0#32
  let c1_i32_417 : BitVec 32 := 1#32
  let arg18 : BitVec 32 := Scf.iv c0_i32_416 c1_i32_417 k0_t1
  let v3086 : Index := Scalar.indexCast arg18
  let c56_1642 : Index := 56#32
  let c0_1643 : Index := 0#32
  ![0, v3086.toNat, 56, 0]
def k0_off10 (k0_t1 : Fin k0_t1_loop.trips) : Fin 4 → Nat :=
  let c0_1793 : Index := 0#32
  let c0_i32_416 : BitVec 32 := 0#32
  let c1_i32_417 : BitVec 32 := 1#32
  let arg18 : BitVec 32 := Scf.iv c0_i32_416 c1_i32_417 k0_t1
  let v3345 : Index := Scalar.indexCast arg18
  let c64_1794 : Index := 64#32
  let c0_1795 : Index := 0#32
  ![0, v3345.toNat, 64, 0]
def k0_off11 (k0_t1 : Fin k0_t1_loop.trips) : Fin 4 → Nat :=
  let c0_1945 : Index := 0#32
  let c0_i32_416 : BitVec 32 := 0#32
  let c1_i32_417 : BitVec 32 := 1#32
  let arg18 : BitVec 32 := Scf.iv c0_i32_416 c1_i32_417 k0_t1
  let v3604 : Index := Scalar.indexCast arg18
  let c72_1946 : Index := 72#32
  let c0_1947 : Index := 0#32
  ![0, v3604.toNat, 72, 0]
def k0_off12 (k0_t1 : Fin k0_t1_loop.trips) : Fin 4 → Nat :=
  let c0_2097 : Index := 0#32
  let c0_i32_416 : BitVec 32 := 0#32
  let c1_i32_417 : BitVec 32 := 1#32
  let arg18 : BitVec 32 := Scf.iv c0_i32_416 c1_i32_417 k0_t1
  let v3863 : Index := Scalar.indexCast arg18
  let c80_2098 : Index := 80#32
  let c0_2099 : Index := 0#32
  ![0, v3863.toNat, 80, 0]
def k0_off13 (k0_t1 : Fin k0_t1_loop.trips) : Fin 4 → Nat :=
  let c0_2249 : Index := 0#32
  let c0_i32_416 : BitVec 32 := 0#32
  let c1_i32_417 : BitVec 32 := 1#32
  let arg18 : BitVec 32 := Scf.iv c0_i32_416 c1_i32_417 k0_t1
  let v4122 : Index := Scalar.indexCast arg18
  let c88_2250 : Index := 88#32
  let c0_2251 : Index := 0#32
  ![0, v4122.toNat, 88, 0]
def k0_off14 (k0_t1 : Fin k0_t1_loop.trips) : Fin 4 → Nat :=
  let c0_2401 : Index := 0#32
  let c0_i32_416 : BitVec 32 := 0#32
  let c1_i32_417 : BitVec 32 := 1#32
  let arg18 : BitVec 32 := Scf.iv c0_i32_416 c1_i32_417 k0_t1
  let v4381 : Index := Scalar.indexCast arg18
  let c96_2402 : Index := 96#32
  let c0_2403 : Index := 0#32
  ![0, v4381.toNat, 96, 0]
def k0_off15 (k0_t1 : Fin k0_t1_loop.trips) : Fin 4 → Nat :=
  let c0_2553 : Index := 0#32
  let c0_i32_416 : BitVec 32 := 0#32
  let c1_i32_417 : BitVec 32 := 1#32
  let arg18 : BitVec 32 := Scf.iv c0_i32_416 c1_i32_417 k0_t1
  let v4640 : Index := Scalar.indexCast arg18
  let c104_2554 : Index := 104#32
  let c0_2555 : Index := 0#32
  ![0, v4640.toNat, 104, 0]
def k0_off16 (k0_t1 : Fin k0_t1_loop.trips) : Fin 4 → Nat :=
  let c0_2705 : Index := 0#32
  let c0_i32_416 : BitVec 32 := 0#32
  let c1_i32_417 : BitVec 32 := 1#32
  let arg18 : BitVec 32 := Scf.iv c0_i32_416 c1_i32_417 k0_t1
  let v4899 : Index := Scalar.indexCast arg18
  let c112_2706 : Index := 112#32
  let c0_2707 : Index := 0#32
  ![0, v4899.toNat, 112, 0]
def k0_off17 (k0_t1 : Fin k0_t1_loop.trips) : Fin 4 → Nat :=
  let c0_2857 : Index := 0#32
  let c0_i32_416 : BitVec 32 := 0#32
  let c1_i32_417 : BitVec 32 := 1#32
  let arg18 : BitVec 32 := Scf.iv c0_i32_416 c1_i32_417 k0_t1
  let v5158 : Index := Scalar.indexCast arg18
  let c120_2858 : Index := 120#32
  let c0_2859 : Index := 0#32
  ![0, v5158.toNat, 120, 0]
def k0_off18 (k0_t1 : Fin k0_t1_loop.trips) : Fin 4 → Nat :=
  let c0_3009 : Index := 0#32
  let c0_i32_416 : BitVec 32 := 0#32
  let c1_i32_417 : BitVec 32 := 1#32
  let arg18 : BitVec 32 := Scf.iv c0_i32_416 c1_i32_417 k0_t1
  let v5417 : Index := Scalar.indexCast arg18
  let c128_3010 : Index := 128#32
  let c0_3011 : Index := 0#32
  ![0, v5417.toNat, 128, 0]
def k0_off19 (k0_t1 : Fin k0_t1_loop.trips) : Fin 4 → Nat :=
  let c0_3161 : Index := 0#32
  let c0_i32_416 : BitVec 32 := 0#32
  let c1_i32_417 : BitVec 32 := 1#32
  let arg18 : BitVec 32 := Scf.iv c0_i32_416 c1_i32_417 k0_t1
  let v5676 : Index := Scalar.indexCast arg18
  let c136_3162 : Index := 136#32
  let c0_3163 : Index := 0#32
  ![0, v5676.toNat, 136, 0]
def k0_off20 (k0_t1 : Fin k0_t1_loop.trips) : Fin 4 → Nat :=
  let c0_3313 : Index := 0#32
  let c0_i32_416 : BitVec 32 := 0#32
  let c1_i32_417 : BitVec 32 := 1#32
  let arg18 : BitVec 32 := Scf.iv c0_i32_416 c1_i32_417 k0_t1
  let v5935 : Index := Scalar.indexCast arg18
  let c144_3314 : Index := 144#32
  let c0_3315 : Index := 0#32
  ![0, v5935.toNat, 144, 0]
def k0_off21 (k0_t1 : Fin k0_t1_loop.trips) : Fin 4 → Nat :=
  let c0_3465 : Index := 0#32
  let c0_i32_416 : BitVec 32 := 0#32
  let c1_i32_417 : BitVec 32 := 1#32
  let arg18 : BitVec 32 := Scf.iv c0_i32_416 c1_i32_417 k0_t1
  let v6194 : Index := Scalar.indexCast arg18
  let c152_3466 : Index := 152#32
  let c0_3467 : Index := 0#32
  ![0, v6194.toNat, 152, 0]
def k0_off22 (k0_t1 : Fin k0_t1_loop.trips) : Fin 4 → Nat :=
  let c0_3617 : Index := 0#32
  let c0_i32_416 : BitVec 32 := 0#32
  let c1_i32_417 : BitVec 32 := 1#32
  let arg18 : BitVec 32 := Scf.iv c0_i32_416 c1_i32_417 k0_t1
  let v6453 : Index := Scalar.indexCast arg18
  let c160_3618 : Index := 160#32
  let c0_3619 : Index := 0#32
  ![0, v6453.toNat, 160, 0]
def k0_off23 (k0_t1 : Fin k0_t1_loop.trips) : Fin 4 → Nat :=
  let c0_3769 : Index := 0#32
  let c0_i32_416 : BitVec 32 := 0#32
  let c1_i32_417 : BitVec 32 := 1#32
  let arg18 : BitVec 32 := Scf.iv c0_i32_416 c1_i32_417 k0_t1
  let v6712 : Index := Scalar.indexCast arg18
  let c168_3770 : Index := 168#32
  let c0_3771 : Index := 0#32
  ![0, v6712.toNat, 168, 0]
def k0_off24 (k0_t1 : Fin k0_t1_loop.trips) : Fin 4 → Nat :=
  let c0_3921 : Index := 0#32
  let c0_i32_416 : BitVec 32 := 0#32
  let c1_i32_417 : BitVec 32 := 1#32
  let arg18 : BitVec 32 := Scf.iv c0_i32_416 c1_i32_417 k0_t1
  let v6971 : Index := Scalar.indexCast arg18
  let c176_3922 : Index := 176#32
  let c0_3923 : Index := 0#32
  ![0, v6971.toNat, 176, 0]
def k0_off25 (k0_t1 : Fin k0_t1_loop.trips) : Fin 4 → Nat :=
  let c0_4073 : Index := 0#32
  let c0_i32_416 : BitVec 32 := 0#32
  let c1_i32_417 : BitVec 32 := 1#32
  let arg18 : BitVec 32 := Scf.iv c0_i32_416 c1_i32_417 k0_t1
  let v7230 : Index := Scalar.indexCast arg18
  let c184_4074 : Index := 184#32
  let c0_4075 : Index := 0#32
  ![0, v7230.toNat, 184, 0]
def k0_off26 (k0_t1 : Fin k0_t1_loop.trips) : Fin 4 → Nat :=
  let c0_4225 : Index := 0#32
  let c0_i32_416 : BitVec 32 := 0#32
  let c1_i32_417 : BitVec 32 := 1#32
  let arg18 : BitVec 32 := Scf.iv c0_i32_416 c1_i32_417 k0_t1
  let v7489 : Index := Scalar.indexCast arg18
  let c192_4226 : Index := 192#32
  let c0_4227 : Index := 0#32
  ![0, v7489.toNat, 192, 0]
def k0_off27 (k0_t1 : Fin k0_t1_loop.trips) : Fin 4 → Nat :=
  let c0_4377 : Index := 0#32
  let c0_i32_416 : BitVec 32 := 0#32
  let c1_i32_417 : BitVec 32 := 1#32
  let arg18 : BitVec 32 := Scf.iv c0_i32_416 c1_i32_417 k0_t1
  let v7748 : Index := Scalar.indexCast arg18
  let c200_4378 : Index := 200#32
  let c0_4379 : Index := 0#32
  ![0, v7748.toNat, 200, 0]
def k0_off28 (k0_t1 : Fin k0_t1_loop.trips) : Fin 4 → Nat :=
  let c0_4529 : Index := 0#32
  let c0_i32_416 : BitVec 32 := 0#32
  let c1_i32_417 : BitVec 32 := 1#32
  let arg18 : BitVec 32 := Scf.iv c0_i32_416 c1_i32_417 k0_t1
  let v8007 : Index := Scalar.indexCast arg18
  let c208_4530 : Index := 208#32
  let c0_4531 : Index := 0#32
  ![0, v8007.toNat, 208, 0]
def k0_off29 (k0_t1 : Fin k0_t1_loop.trips) : Fin 4 → Nat :=
  let c0_4681 : Index := 0#32
  let c0_i32_416 : BitVec 32 := 0#32
  let c1_i32_417 : BitVec 32 := 1#32
  let arg18 : BitVec 32 := Scf.iv c0_i32_416 c1_i32_417 k0_t1
  let v8266 : Index := Scalar.indexCast arg18
  let c216_4682 : Index := 216#32
  let c0_4683 : Index := 0#32
  ![0, v8266.toNat, 216, 0]
def k0_off30 (k0_t1 : Fin k0_t1_loop.trips) : Fin 4 → Nat :=
  let c0_4833 : Index := 0#32
  let c0_i32_416 : BitVec 32 := 0#32
  let c1_i32_417 : BitVec 32 := 1#32
  let arg18 : BitVec 32 := Scf.iv c0_i32_416 c1_i32_417 k0_t1
  let v8525 : Index := Scalar.indexCast arg18
  let c224_4834 : Index := 224#32
  let c0_4835 : Index := 0#32
  ![0, v8525.toNat, 224, 0]
def k0_off31 (k0_t1 : Fin k0_t1_loop.trips) : Fin 4 → Nat :=
  let c0_4985 : Index := 0#32
  let c0_i32_416 : BitVec 32 := 0#32
  let c1_i32_417 : BitVec 32 := 1#32
  let arg18 : BitVec 32 := Scf.iv c0_i32_416 c1_i32_417 k0_t1
  let v8784 : Index := Scalar.indexCast arg18
  let c232_4986 : Index := 232#32
  let c0_4987 : Index := 0#32
  ![0, v8784.toNat, 232, 0]
def k0_off32 (k0_t1 : Fin k0_t1_loop.trips) : Fin 4 → Nat :=
  let c0_5137 : Index := 0#32
  let c0_i32_416 : BitVec 32 := 0#32
  let c1_i32_417 : BitVec 32 := 1#32
  let arg18 : BitVec 32 := Scf.iv c0_i32_416 c1_i32_417 k0_t1
  let v9043 : Index := Scalar.indexCast arg18
  let c240_5138 : Index := 240#32
  let c0_5139 : Index := 0#32
  ![0, v9043.toNat, 240, 0]
def k0_off33 (k0_t1 : Fin k0_t1_loop.trips) : Fin 4 → Nat :=
  let c0_5289 : Index := 0#32
  let c0_i32_416 : BitVec 32 := 0#32
  let c1_i32_417 : BitVec 32 := 1#32
  let arg18 : BitVec 32 := Scf.iv c0_i32_416 c1_i32_417 k0_t1
  let v9302 : Index := Scalar.indexCast arg18
  let c248_5290 : Index := 248#32
  let c0_5291 : Index := 0#32
  ![0, v9302.toNat, 248, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x3x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x672 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x64x64x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x64x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S3x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S262x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x262 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S262x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x262 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S262x256 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x262 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x21x256x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== ReferenceIdeal.lean ====
abbrev S4x3x256x256 : Shape := ⟨4, ![4, 3, 256, 256]⟩
abbrev S4x21x32x32 : Shape := ⟨4, ![4, 21, 32, 32]⟩
abbrev S4x64x64x64 : Shape := ⟨4, ![4, 64, 64, 64]⟩
abbrev S1x131x1x1 : Shape := ⟨4, ![1, 131, 1, 1]⟩
abbrev S256 : Shape := ⟨1, ![256]⟩
abbrev S_ : Shape := ⟨0, ![]⟩
abbrev S1x1x256x1 : Shape := ⟨4, ![1, 1, 256, 1]⟩
abbrev S1x1x1x256 : Shape := ⟨4, ![1, 1, 1, 256]⟩
abbrev S256x1 : Shape := ⟨2, ![256, 1]⟩
abbrev S4x21x256x32 : Shape := ⟨4, ![4, 21, 256, 32]⟩
abbrev S4x21x256x256 : Shape := ⟨4, ![4, 21, 256, 256]⟩
abbrev S4x64x256x64 : Shape := ⟨4, ![4, 64, 256, 64]⟩
abbrev S4x64x256x256 : Shape := ⟨4, ![4, 64, 256, 256]⟩
abbrev S4x131x256x256 : Shape := ⟨4, ![4, 131, 256, 256]⟩
abbrev S131 : Shape := ⟨1, ![131]⟩
abbrev S4x256x256 : Shape := ⟨3, ![4, 256, 256]⟩
abbrev S4x262x262 : Shape := ⟨3, ![4, 262, 262]⟩
abbrev S256x256 : Shape := ⟨2, ![256, 256]⟩
abbrev S262x262 : Shape := ⟨2, ![262, 262]⟩
abbrev S4x21x262x262 : Shape := ⟨4, ![4, 21, 262, 262]⟩
abbrev S7 : Shape := ⟨1, ![7]⟩
abbrev S7x1 : Shape := ⟨2, ![7, 1]⟩
abbrev S1x256 : Shape := ⟨2, ![1, 256]⟩
abbrev S7x256 : Shape := ⟨2, ![7, 256]⟩
abbrev S4x1x256x1x256 : Shape := ⟨5, ![4, 1, 256, 1, 256]⟩
abbrev S7x256x1 : Shape := ⟨3, ![7, 256, 1]⟩
abbrev S4x7x256x262 : Shape := ⟨4, ![4, 7, 256, 262]⟩
abbrev S4x7x256x7x256 : Shape := ⟨5, ![4, 7, 256, 7, 256]⟩
abbrev S7x256x262 : Shape := ⟨3, ![7, 256, 262]⟩
abbrev S7x256x7x256 : Shape := ⟨4, ![7, 256, 7, 256]⟩
abbrev S1x7x256x7x256 : Shape := ⟨5, ![1, 7, 256, 7, 256]⟩
abbrev S4x1x7x256x7x256 : Shape := ⟨6, ![4, 1, 7, 256, 7, 256]⟩
abbrev S4x21x7x256x262 : Shape := ⟨5, ![4, 21, 7, 256, 262]⟩
abbrev S4x21x7x256x7x256 : Shape := ⟨6, ![4, 21, 7, 256, 7, 256]⟩
abbrev S4x21x65536 : Shape := ⟨3, ![4, 21, 65536]⟩
abbrev S4x65536x21 : Shape := ⟨3, ![4, 65536, 21]⟩

abbrev nBuf : Space → Nat
  | .hbm => 274
  | .vmem => 0
  | .smem => 0
  | _ => 0

abbrev hbmTy0_0 (i : Nat) : BufTy := match i % 128 with
  | 0 => ⟨S4x3x256x256, .f32⟩
  | 1 => ⟨S4x21x32x32, .f32⟩
  | 2 => ⟨S4x64x64x64, .f32⟩
  | 3 => ⟨S4x64x64x64, .f32⟩
  | 4 => ⟨S1x131x1x1, .f32⟩
  | 5 => ⟨S256, .f32⟩
  | 6 => ⟨S_, .f32⟩
  | 7 => ⟨S256, .f32⟩
  | 8 => ⟨S256, .f32⟩
  | 9 => ⟨S_, .f32⟩
  | 10 => ⟨S256, .f32⟩
  | 11 => ⟨S256, .f32⟩
  | 12 => ⟨S256, .f32⟩
  | 13 => ⟨S_, .f32⟩
  | 14 => ⟨S256, .f32⟩
  | 15 => ⟨S256, .f32⟩
  | 16 => ⟨S_, .f32⟩
  | 17 => ⟨S256, .f32⟩
  | 18 => ⟨S256, .f32⟩
  | 19 => ⟨S256, .f32⟩
  | 20 => ⟨S256, .i32⟩
  | 21 => ⟨S_, .i32⟩
  | 22 => ⟨S256, .i32⟩
  | 23 => ⟨S256, .i32⟩
  | 24 => ⟨S_, .i32⟩
  | 25 => ⟨S256, .i32⟩
  | 26 => ⟨S256, .i32⟩
  | 27 => ⟨S256, .f32⟩
  | 28 => ⟨S256, .i32⟩
  | 29 => ⟨S_, .i32⟩
  | 30 => ⟨S256, .i32⟩
  | 31 => ⟨S256, .i32⟩
  | 32 => ⟨S_, .i32⟩
  | 33 => ⟨S256, .i32⟩
  | 34 => ⟨S256, .i32⟩
  | 35 => ⟨S256, .f32⟩
  | 36 => ⟨S256, .f32⟩
  | 37 => ⟨S1x1x256x1, .f32⟩
  | 38 => ⟨S256, .f32⟩
  | 39 => ⟨S256, .f32⟩
  | 40 => ⟨S1x1x1x256, .f32⟩
  | 41 => ⟨S256x1, .i32⟩
  | 42 => ⟨S4x21x256x32, .f32⟩
  | 43 => ⟨S256x1, .i32⟩
  | 44 => ⟨S4x21x256x32, .f32⟩
  | 45 => ⟨S256x1, .i32⟩
  | 46 => ⟨S4x21x256x256, .f32⟩
  | 47 => ⟨S_, .f32⟩
  | 48 => ⟨S1x1x1x256, .f32⟩
  | 49 => ⟨S1x1x1x256, .f32⟩
  | 50 => ⟨S4x21x256x256, .f32⟩
  | 51 => ⟨S4x21x256x256, .f32⟩
  | 52 => ⟨S256x1, .i32⟩
  | 53 => ⟨S4x21x256x256, .f32⟩
  | 54 => ⟨S4x21x256x256, .f32⟩
  | 55 => ⟨S4x21x256x256, .f32⟩
  | 56 => ⟨S4x21x256x256, .f32⟩
  | 57 => ⟨S256x1, .i32⟩
  | 58 => ⟨S4x21x256x256, .f32⟩
  | 59 => ⟨S_, .f32⟩
  | 60 => ⟨S1x1x1x256, .f32⟩
  | 61 => ⟨S1x1x1x256, .f32⟩
  | 62 => ⟨S4x21x256x256, .f32⟩
  | 63 => ⟨S4x21x256x256, .f32⟩
  | 64 => ⟨S256x1, .i32⟩
  | 65 => ⟨S4x21x256x256, .f32⟩
  | 66 => ⟨S4x21x256x256, .f32⟩
  | 67 => ⟨S4x21x256x256, .f32⟩
  | 68 => ⟨S4x21x256x256, .f32⟩
  | 69 => ⟨S_, .f32⟩
  | 70 => ⟨S1x1x256x1, .f32⟩
  | 71 => ⟨S1x1x256x1, .f32⟩
  | 72 => ⟨S4x21x256x256, .f32⟩
  | 73 => ⟨S4x21x256x256, .f32⟩
  | 74 => ⟨S4x21x256x256, .f32⟩
  | 75 => ⟨S4x21x256x256, .f32⟩
  | 76 => ⟨S4x21x256x256, .f32⟩
  | 77 => ⟨S256, .f32⟩
  | 78 => ⟨S_, .f32⟩
  | 79 => ⟨S256, .f32⟩
  | 80 => ⟨S256, .f32⟩
  | 81 => ⟨S_, .f32⟩
  | 82 => ⟨S256, .f32⟩
  | 83 => ⟨S256, .f32⟩
  | 84 => ⟨S256, .f32⟩
  | 85 => ⟨S_, .f32⟩
  | 86 => ⟨S256, .f32⟩
  | 87 => ⟨S256, .f32⟩
  | 88 => ⟨S_, .f32⟩
  | 89 => ⟨S256, .f32⟩
  | 90 => ⟨S256, .f32⟩
  | 91 => ⟨S256, .f32⟩
  | 92 => ⟨S256, .i32⟩
  | 93 => ⟨S_, .i32⟩
  | 94 => ⟨S256, .i32⟩
  | 95 => ⟨S256, .i32⟩
  | 96 => ⟨S_, .i32⟩
  | 97 => ⟨S256, .i32⟩
  | 98 => ⟨S256, .i32⟩
  | 99 => ⟨S256, .f32⟩
  | 100 => ⟨S256, .i32⟩
  | 101 => ⟨S_, .i32⟩
  | 102 => ⟨S256, .i32⟩
  | 103 => ⟨S256, .i32⟩
  | 104 => ⟨S_, .i32⟩
  | 105 => ⟨S256, .i32⟩
  | 106 => ⟨S256, .i32⟩
  | 107 => ⟨S256, .f32⟩
  | 108 => ⟨S256, .f32⟩
  | 109 => ⟨S1x1x256x1, .f32⟩
  | 110 => ⟨S256, .f32⟩
  | 111 => ⟨S256, .f32⟩
  | 112 => ⟨S1x1x1x256, .f32⟩
  | 113 => ⟨S256x1, .i32⟩
  | 114 => ⟨S4x64x256x64, .f32⟩
  | 115 => ⟨S256x1, .i32⟩
  | 116 => ⟨S4x64x256x64, .f32⟩
  | 117 => ⟨S256x1, .i32⟩
  | 118 => ⟨S4x64x256x256, .f32⟩
  | 119 => ⟨S_, .f32⟩
  | 120 => ⟨S1x1x1x256, .f32⟩
  | 121 => ⟨S1x1x1x256, .f32⟩
  | 122 => ⟨S4x64x256x256, .f32⟩
  | 123 => ⟨S4x64x256x256, .f32⟩
  | 124 => ⟨S256x1, .i32⟩
  | 125 => ⟨S4x64x256x256, .f32⟩
  | 126 => ⟨S4x64x256x256, .f32⟩
  | 127 => ⟨S4x64x256x256, .f32⟩
  | _ => ⟨S4x3x256x256, .f32⟩

abbrev hbmTy0_1 (i : Nat) : BufTy := match i % 128 with
  | 0 => ⟨S4x64x256x256, .f32⟩
  | 1 => ⟨S256x1, .i32⟩
  | 2 => ⟨S4x64x256x256, .f32⟩
  | 3 => ⟨S_, .f32⟩
  | 4 => ⟨S1x1x1x256, .f32⟩
  | 5 => ⟨S1x1x1x256, .f32⟩
  | 6 => ⟨S4x64x256x256, .f32⟩
  | 7 => ⟨S4x64x256x256, .f32⟩
  | 8 => ⟨S256x1, .i32⟩
  | 9 => ⟨S4x64x256x256, .f32⟩
  | 10 => ⟨S4x64x256x256, .f32⟩
  | 11 => ⟨S4x64x256x256, .f32⟩
  | 12 => ⟨S4x64x256x256, .f32⟩
  | 13 => ⟨S_, .f32⟩
  | 14 => ⟨S1x1x256x1, .f32⟩
  | 15 => ⟨S1x1x256x1, .f32⟩
  | 16 => ⟨S4x64x256x256, .f32⟩
  | 17 => ⟨S4x64x256x256, .f32⟩
  | 18 => ⟨S4x64x256x256, .f32⟩
  | 19 => ⟨S4x64x256x256, .f32⟩
  | 20 => ⟨S4x64x256x256, .f32⟩
  | 21 => ⟨S256, .f32⟩
  | 22 => ⟨S_, .f32⟩
  | 23 => ⟨S256, .f32⟩
  | 24 => ⟨S256, .f32⟩
  | 25 => ⟨S_, .f32⟩
  | 26 => ⟨S256, .f32⟩
  | 27 => ⟨S256, .f32⟩
  | 28 => ⟨S256, .f32⟩
  | 29 => ⟨S_, .f32⟩
  | 30 => ⟨S256, .f32⟩
  | 31 => ⟨S256, .f32⟩
  | 32 => ⟨S_, .f32⟩
  | 33 => ⟨S256, .f32⟩
  | 34 => ⟨S256, .f32⟩
  | 35 => ⟨S256, .f32⟩
  | 36 => ⟨S256, .i32⟩
  | 37 => ⟨S_, .i32⟩
  | 38 => ⟨S256, .i32⟩
  | 39 => ⟨S256, .i32⟩
  | 40 => ⟨S_, .i32⟩
  | 41 => ⟨S256, .i32⟩
  | 42 => ⟨S256, .i32⟩
  | 43 => ⟨S256, .f32⟩
  | 44 => ⟨S256, .i32⟩
  | 45 => ⟨S_, .i32⟩
  | 46 => ⟨S256, .i32⟩
  | 47 => ⟨S256, .i32⟩
  | 48 => ⟨S_, .i32⟩
  | 49 => ⟨S256, .i32⟩
  | 50 => ⟨S256, .i32⟩
  | 51 => ⟨S256, .f32⟩
  | 52 => ⟨S256, .f32⟩
  | 53 => ⟨S1x1x256x1, .f32⟩
  | 54 => ⟨S256, .f32⟩
  | 55 => ⟨S256, .f32⟩
  | 56 => ⟨S1x1x1x256, .f32⟩
  | 57 => ⟨S256x1, .i32⟩
  | 58 => ⟨S4x64x256x64, .f32⟩
  | 59 => ⟨S256x1, .i32⟩
  | 60 => ⟨S4x64x256x64, .f32⟩
  | 61 => ⟨S256x1, .i32⟩
  | 62 => ⟨S4x64x256x256, .f32⟩
  | 63 => ⟨S_, .f32⟩
  | 64 => ⟨S1x1x1x256, .f32⟩
  | 65 => ⟨S1x1x1x256, .f32⟩
  | 66 => ⟨S4x64x256x256, .f32⟩
  | 67 => ⟨S4x64x256x256, .f32⟩
  | 68 => ⟨S256x1, .i32⟩
  | 69 => ⟨S4x64x256x256, .f32⟩
  | 70 => ⟨S4x64x256x256, .f32⟩
  | 71 => ⟨S4x64x256x256, .f32⟩
  | 72 => ⟨S4x64x256x256, .f32⟩
  | 73 => ⟨S256x1, .i32⟩
  | 74 => ⟨S4x64x256x256, .f32⟩
  | 75 => ⟨S_, .f32⟩
  | 76 => ⟨S1x1x1x256, .f32⟩
  | 77 => ⟨S1x1x1x256, .f32⟩
  | 78 => ⟨S4x64x256x256, .f32⟩
  | 79 => ⟨S4x64x256x256, .f32⟩
  | 80 => ⟨S256x1, .i32⟩
  | 81 => ⟨S4x64x256x256, .f32⟩
  | 82 => ⟨S4x64x256x256, .f32⟩
  | 83 => ⟨S4x64x256x256, .f32⟩
  | 84 => ⟨S4x64x256x256, .f32⟩
  | 85 => ⟨S_, .f32⟩
  | 86 => ⟨S1x1x256x1, .f32⟩
  | 87 => ⟨S1x1x256x1, .f32⟩
  | 88 => ⟨S4x64x256x256, .f32⟩
  | 89 => ⟨S4x64x256x256, .f32⟩
  | 90 => ⟨S4x64x256x256, .f32⟩
  | 91 => ⟨S4x64x256x256, .f32⟩
  | 92 => ⟨S4x64x256x256, .f32⟩
  | 93 => ⟨S4x131x256x256, .f32⟩
  | 94 => ⟨S131, .f32⟩
  | 95 => ⟨S4x256x256, .f32⟩
  | 96 => ⟨S_, .i32⟩
  | 97 => ⟨S_, .f32⟩
  | 98 => ⟨S4x262x262, .f32⟩
  | 99 => ⟨S_, .f32⟩
  | 100 => ⟨S256x256, .f32⟩
  | 101 => ⟨S_, .i32⟩
  | 102 => ⟨S_, .f32⟩
  | 103 => ⟨S262x262, .f32⟩
  | 104 => ⟨S_, .i32⟩
  | 105 => ⟨S_, .f32⟩
  | 106 => ⟨S4x21x262x262, .f32⟩
  | 107 => ⟨S7, .i32⟩
  | 108 => ⟨S7x1, .i32⟩
  | 109 => ⟨S256, .i32⟩
  | 110 => ⟨S1x256, .i32⟩
  | 111 => ⟨S7x256, .i32⟩
  | 112 => ⟨S7x256, .i32⟩
  | 113 => ⟨S7x256, .i32⟩
  | 114 => ⟨S4x1x256x1x256, .f32⟩
  | 115 => ⟨S7x256x1, .i32⟩
  | 116 => ⟨S4x7x256x262, .f32⟩
  | 117 => ⟨S7x256x1, .i32⟩
  | 118 => ⟨S4x7x256x7x256, .f32⟩
  | 119 => ⟨S4x7x256x7x256, .f32⟩
  | 120 => ⟨S4x7x256x7x256, .f32⟩
  | 121 => ⟨S4x7x256x7x256, .f32⟩
  | 122 => ⟨S4x7x256x7x256, .f32⟩
  | 123 => ⟨S7x256x1, .i32⟩
  | 124 => ⟨S7x256x262, .f32⟩
  | 125 => ⟨S7x256x1, .i32⟩
  | 126 => ⟨S7x256x7x256, .f32⟩
  | 127 => ⟨S1x7x256x7x256, .f32⟩
  | _ => ⟨S4x3x256x256, .f32⟩

abbrev hbmTy0_2 (i : Nat) : BufTy := match i % 128 with
  | 0 => ⟨S4x7x256x7x256, .f32⟩
  | 1 => ⟨S4x7x256x7x256, .f32⟩
  | 2 => ⟨S_, .f32⟩
  | 3 => ⟨S4x256x256, .f32⟩
  | 4 => ⟨S4x1x256x1x256, .f32⟩
  | 5 => ⟨S4x7x256x7x256, .f32⟩
  | 6 => ⟨S4x7x256x7x256, .f32⟩
  | 7 => ⟨S4x1x7x256x7x256, .f32⟩
  | 8 => ⟨S7x256x1, .i32⟩
  | 9 => ⟨S4x21x7x256x262, .f32⟩
  | 10 => ⟨S7x256x1, .i32⟩
  | 11 => ⟨S4x21x7x256x7x256, .f32⟩
  | 12 => ⟨S4x21x7x256x7x256, .f32⟩
  | 13 => ⟨S4x21x7x256x7x256, .f32⟩
  | 14 => ⟨S_, .f32⟩
  | 15 => ⟨S4x21x256x256, .f32⟩
  | 16 => ⟨S4x21x65536, .f32⟩
  | 17 => ⟨S4x65536x21, .f32⟩
  | _ => ⟨S4x3x256x256, .f32⟩

abbrev hbmTy (i : Nat) : BufTy := match i / 128 with
  | 0 => hbmTy0_0 i
  | 1 => hbmTy0_1 i
  | 2 => hbmTy0_2 i
  | _ => ⟨S4x3x256x256, .f32⟩

abbrev bufTy : (tb : Table) → Fin (tcTables nBuf tb) → BufTy
  | .hbm, ⟨i, _⟩ => hbmTy i
  | _, _ => ⟨S4x3x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_c_4 : Ref sig .tc := ⟨.hbm, 29, rfl⟩
abbrev main_v18 : Ref sig .tc := ⟨.hbm, 30, rfl⟩
abbrev main_v19 : Ref sig .tc := ⟨.hbm, 31, rfl⟩
abbrev main_c_5 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_cst_7 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_cst_8 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_cst_9 : Ref sig .tc := ⟨.hbm, 78, rfl⟩
abbrev main_v62 : Ref sig .tc := ⟨.hbm, 79, rfl⟩
abbrev main_v63 : Ref sig .tc := ⟨.hbm, 80, rfl⟩
abbrev main_cst_10 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_cst_11 : Ref sig .tc := ⟨.hbm, 85, rfl⟩
abbrev main_v67 : Ref sig .tc := ⟨.hbm, 86, rfl⟩
abbrev main_v68 : Ref sig .tc := ⟨.hbm, 87, rfl⟩
abbrev main_cst_12 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_c_13 : Ref sig .tc := ⟨.hbm, 93, rfl⟩
abbrev main_v73 : Ref sig .tc := ⟨.hbm, 94, rfl⟩
abbrev main_v74 : Ref sig .tc := ⟨.hbm, 95, rfl⟩
abbrev main_c_14 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_c_15 : Ref sig .tc := ⟨.hbm, 101, rfl⟩
abbrev main_v79 : Ref sig .tc := ⟨.hbm, 102, rfl⟩
abbrev main_v80 : Ref sig .tc := ⟨.hbm, 103, rfl⟩
abbrev main_c_16 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_17 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_cst_18 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_cst_19 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_cst_20 : Ref sig .tc := ⟨.hbm, 150, rfl⟩
abbrev main_v123 : Ref sig .tc := ⟨.hbm, 151, rfl⟩
abbrev main_v124 : Ref sig .tc := ⟨.hbm, 152, rfl⟩
abbrev main_cst_21 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_22 : Ref sig .tc := ⟨.hbm, 157, rfl⟩
abbrev main_v128 : Ref sig .tc := ⟨.hbm, 158, rfl⟩
abbrev main_v129 : Ref sig .tc := ⟨.hbm, 159, rfl⟩
abbrev main_cst_23 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_c_24 : Ref sig .tc := ⟨.hbm, 165, rfl⟩
abbrev main_v134 : Ref sig .tc := ⟨.hbm, 166, rfl⟩
abbrev main_v135 : Ref sig .tc := ⟨.hbm, 167, rfl⟩
abbrev main_c_25 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_c_26 : Ref sig .tc := ⟨.hbm, 173, rfl⟩
abbrev main_v140 : Ref sig .tc := ⟨.hbm, 174, rfl⟩
abbrev main_v141 : Ref sig .tc := ⟨.hbm, 175, rfl⟩
abbrev main_c_27 : Ref sig .tc := ⟨.hbm, 176, rfl⟩
abbrev main_v142 : Ref sig .tc := ⟨.hbm, 177, rfl⟩
abbrev main_v143 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_v155 : Ref sig .tc := ⟨.hbm, 190, rfl⟩
abbrev main_cst_28 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_cst_29 : Ref sig .tc := ⟨.hbm, 203, rfl⟩
abbrev main_v167 : Ref sig .tc := ⟨.hbm, 204, rfl⟩
abbrev main_v168 : Ref sig .tc := ⟨.hbm, 205, rfl⟩
abbrev main_v169 : Ref sig .tc := ⟨.hbm, 206, rfl⟩
abbrev main_v170 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_cst_30 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_c_31 : Ref sig .tc := ⟨.hbm, 224, rfl⟩
abbrev main_call0_v0 : Ref sig .tc := ⟨.hbm, 225, rfl⟩
abbrev main_v186 : Ref sig .tc := ⟨.hbm, 226, rfl⟩
abbrev main_cst_32 : Ref sig .tc := ⟨.hbm, 227, rfl⟩
abbrev main_v187 : Ref sig .tc := ⟨.hbm, 228, rfl⟩
abbrev main_c_33 : Ref sig .tc := ⟨.hbm, 229, rfl⟩
abbrev main_call1_v0 : Ref sig .tc := ⟨.hbm, 230, rfl⟩
abbrev main_v188 : Ref sig .tc := ⟨.hbm, 231, rfl⟩
abbrev main_c_34 : Ref sig .tc := ⟨.hbm, 232, rfl⟩
abbrev main_call2_v0 : Ref sig .tc := ⟨.hbm, 233, rfl⟩
abbrev main_v189 : Ref sig .tc := ⟨.hbm, 234, rfl⟩
abbrev main_v190 : Ref sig .tc := ⟨.hbm, 235, rfl⟩
abbrev main_v191 : Ref sig .tc := ⟨.hbm, 236, rfl⟩
abbrev main_v192 : Ref sig .tc := ⟨.hbm, 237, rfl⟩
abbrev main_v193 : Ref sig .tc := ⟨.hbm, 238, rfl⟩
abbrev main_v194 : Ref sig .tc := ⟨.hbm, 239, rfl⟩
abbrev main_v195 : Ref sig .tc := ⟨.hbm, 240, rfl⟩
abbrev main_v196 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_v208 : Ref sig .tc := ⟨.hbm, 253, rfl⟩
abbrev main_v209 : Ref sig .tc := ⟨.hbm, 254, rfl⟩
abbrev main_v210 : Ref sig .tc := ⟨.hbm, 255, rfl⟩
abbrev main_v211 : Ref sig .tc := ⟨.hbm, 256, rfl⟩
abbrev main_v212 : Ref sig .tc := ⟨.hbm, 257, rfl⟩
abbrev main_cst_35 : Ref sig .tc := ⟨.hbm, 258, rfl⟩
abbrev main_v213 : Ref sig .tc := ⟨.hbm, 259, rfl⟩
abbrev main_v214 : Ref sig .tc := ⟨.hbm, 260, rfl⟩
abbrev main_v215 : Ref sig .tc := ⟨.hbm, 261, rfl⟩
abbrev main_v216 : Ref sig .tc := ⟨.hbm, 262, rfl⟩
abbrev main_v217 : Ref sig .tc := ⟨.hbm, 263, rfl⟩
abbrev main_v218 : Ref sig .tc := ⟨.hbm, 264, rfl⟩
abbrev main_v219 : Ref sig .tc := ⟨.hbm, 265, rfl⟩
abbrev main_v220 : Ref sig .tc := ⟨.hbm, 266, rfl⟩
abbrev main_v221 : Ref sig .tc := ⟨.hbm, 267, rfl⟩
abbrev main_v222 : Ref sig .tc := ⟨.hbm, 268, rfl⟩
abbrev main_v223 : Ref sig .tc := ⟨.hbm, 269, rfl⟩
abbrev main_cst_36 : Ref sig .tc := ⟨.hbm, 270, rfl⟩
abbrev main_v224 : Ref sig .tc := ⟨.hbm, 271, rfl⟩
abbrev main_v225 : Ref sig .tc := ⟨.hbm, 272, rfl⟩
abbrev main_v226 : Ref sig .tc := ⟨.hbm, 273, rfl⟩

abbrev nD : Nat := 1
abbrev τ : Topo := Topo.v7x

variable {F : FTy → Type} [FloatOps F]
-- ==== Proof.Window.lean ====
/- The seven by seven window: a map padded by three zeros on every side, the affinity weights of a position with its
   window, their total, and the weighted average of another padded map. Dividing every weight by the total and summing
   is summing and then multiplying by the reciprocal, because the total is never zero. -/
module

public import Idealize.ShloMosaic.PureOps.Ideal
public import Mathlib.Algebra.BigOperators.Fin

@[expose] public section

noncomputable section

namespace Cert.RowWindow

open Idealize.ShloMosaic

/-- A position of the padded map that holds an entry of the map. -/
def Inside (r q : ℕ) : Prop := (3 ≤ r ∧ r < 259) ∧ (3 ≤ q ∧ q < 259)

instance (r q : ℕ) : Decidable (Inside r q) := inferInstanceAs (Decidable (_ ∧ _))

/-- The padded map. -/
def padded (X : Fin 256 → Fin 256 → EReal) (r q : ℕ) : EReal :=
  if h : Inside r q then X ⟨r - 3, by have := h.1; omega⟩ ⟨q - 3, by have := h.2; omega⟩ else 0

theorem padded_inside (X : Fin 256 → Fin 256 → EReal) (i j : Fin 256) : padded X (i.val + 3) (j.val + 3) = X i j := by
  unfold padded
  rw [dif_pos ⟨⟨by omega, by omega⟩, ⟨by omega, by omega⟩⟩]
  congr 1

/-- The distance of two values. -/
def dist (a b : EReal) : EReal := max (a - b) (-(a - b))

/-- The weight of window place `(d, e)` at `(i, j)`: zero outside the map. -/
def weight (F : Fin 256 → Fin 256 → EReal) (i j : Fin 256) (d e : ℕ) : EReal :=
  if Inside (i.val + d) (j.val + e) then Ideal.exp (dist (F i j) (padded F (i.val + d) (j.val + e))) else 0

/-- The sum of the weights. -/
def total (F : Fin 256 → Fin 256 → EReal) (i j : Fin 256) : EReal :=
  ∑ d : Fin 7, ∑ e : Fin 7, weight F i j d.val e.val

/-- The weighted average of `V` over the window. -/
def average (F V : Fin 256 → Fin 256 → EReal) (i j : Fin 256) : EReal :=
  (∑ d : Fin 7, ∑ e : Fin 7, weight F i j d.val e.val * padded V (i.val + d.val) (j.val + e.val))
    * Ideal.div 1 (total F i j)

theorem exp_nonneg (x : EReal) : 0 ≤ Ideal.exp x := by
  induction x using EReal.rec with
  | bot => exact le_rfl
  | coe r => exact EReal.coe_nonneg.2 (Real.exp_pos r).le
  | top => exact le_top

theorem exp_pos_of_nonneg {x : EReal} (h : 0 ≤ x) : 0 < Ideal.exp x := by
  induction x using EReal.rec with
  | bot => simp at h
  | coe r => exact EReal.coe_pos.2 (Real.exp_pos r)
  | top => exact EReal.zero_lt_top

theorem dist_nonneg (a b : EReal) : 0 ≤ dist a b := by
  unfold dist
  rcases le_total 0 (a - b) with h | h
  · exact le_max_of_le_left h
  · exact le_max_of_le_right (EReal.neg_nonneg.2 h)

theorem weight_nonneg (F : Fin 256 → Fin 256 → EReal) (i j : Fin 256) (d e : ℕ) : 0 ≤ weight F i j d e := by
  unfold weight
  split_ifs
  · exact exp_nonneg _
  · exact le_rfl

/-- The window's own centre is inside, so the total is positive. -/
theorem total_pos (F : Fin 256 → Fin 256 → EReal) (i j : Fin 256) : 0 < total F i j := by
  have hc : 0 < weight F i j 3 3 := by
    unfold weight
    rw [if_pos ⟨⟨by omega, by omega⟩, ⟨by omega, by omega⟩⟩]
    exact exp_pos_of_nonneg (dist_nonneg _ _)
  have h1 : weight F i j 3 3 ≤ ∑ e : Fin 7, weight F i j 3 e.val :=
    Finset.single_le_sum (f := fun e : Fin 7 => weight F i j 3 e.val) (fun e _ => weight_nonneg F i j 3 e.val)
      (Finset.mem_univ (3 : Fin 7))
  have h2 : (∑ e : Fin 7, weight F i j 3 e.val) ≤ total F i j :=
    Finset.single_le_sum (f := fun d : Fin 7 => ∑ e : Fin 7, weight F i j d.val e.val)
      (fun d _ => Finset.sum_nonneg fun e _ => weight_nonneg F i j d.val e.val) (Finset.mem_univ (3 : Fin 7))
  exact hc.trans_le (h1.trans h2)

theorem sum_mul_right {ι : Type} (s : Finset ι) (f : ι → EReal) {r : EReal} (h0 : 0 ≤ r) (h1 : r ≠ ⊤) :
    (∑ k ∈ s, f k) * r = ∑ k ∈ s, f k * r := by
  classical
  induction s using Finset.induction_on with
  | empty => simp
  | insert a s ha ih =>
    rw [Finset.sum_insert ha, Finset.sum_insert ha, EReal.right_distrib_of_nonneg_of_ne_top h0 h1, ih]

/-- The average with each weight divided by the total first. -/
theorem average_eq (F V : Fin 256 → Fin 256 → EReal) (i j : Fin 256) :
    average F V i j = ∑ d : Fin 7, ∑ e : Fin 7,
      Ideal.div (weight F i j d.val e.val) (total F i j) * padded V (i.val + d.val) (j.val + e.val) := by
  have hne : total F i j ≠ 0 := (total_pos F i j).ne'
  have h0 : 0 ≤ (total F i j)⁻¹ := EReal.inv_nonneg_of_nonneg (total_pos F i j).le
  have h1 : (total F i j)⁻¹ ≠ ⊤ := (EReal.inv_lt_top _).ne
  unfold average
  simp only [Ideal.div, if_neg hne, one_mul]
  rw [sum_mul_right _ _ h0 h1]
  refine Finset.sum_congr rfl fun d _ => ?_
  rw [sum_mul_right _ _ h0 h1]
  refine Finset.sum_congr rfl fun e _ => ?_
  exact mul_right_comm _ _ _

end Cert.RowWindow

end
-- ==== Proof.KernelTap.lean ====
/- One window place's block of weights as the kernel stores it, read at an index. -/
module

public import proofs.«01_k».proof.Proof.Gen.KernelIdeal.Frame
public import proofs.«01_k».proof.Proof.Window
public import Idealize.ShloMosaic.Lib.Pointwise

@[expose] public section

set_option maxRecDepth 16384

noncomputable section

namespace Cert.RowWindow

open Idealize.ShloMosaic Cert.KernelIdeal Cert.KernelIdeal.Gen

/-- The weight of window place `(d, e)` at `(i, j)`, of the padded map `P` and the map `Q`. -/
def weightOn (P : S262x262.Idx → EReal) (Q : S256x256.Idx → EReal) (d e : Fin 7) (i j : Fin 256) : EReal :=
  if Inside (i.val + d.val) (j.val + e.val) then
    Ideal.exp (dist (Q (ix2 i j)) (P (ix2 ⟨i.val + d.val, by omega⟩ ⟨j.val + e.val, by omega⟩)))
  else 0

/-- The lower bound on a row or column, as a word comparison. -/
theorem low_bit : ∀ (d : Fin 7) (i : Fin 256),
    IntOp.cmpi .sge (BitVec.ofNat 32 i.val) (3#32 - BitVec.ofNat 32 d.val) = if 3 ≤ i.val + d.val then 1#1 else 0#1 := by
  decide +kernel

/-- The upper bound. -/
theorem high_bit : ∀ (d : Fin 7) (i : Fin 256),
    IntOp.cmpi .sle (BitVec.ofNat 32 i.val) (258#32 - BitVec.ofNat 32 d.val) = if i.val + d.val < 259 then 1#1 else 0#1 := by
  decide +kernel

theorem select_four (p q r s : Prop) [Decidable p] [Decidable q] [Decidable r] [Decidable s] (x y : EReal) :
    Scalar.select (IntOp.andi (IntOp.andi (IntOp.andi (if p then 1#1 else 0#1) (if q then 1#1 else 0#1))
      (if r then 1#1 else 0#1)) (if s then 1#1 else 0#1)) x y = if (p ∧ q) ∧ r ∧ s then x else y := by
  by_cases hp : p <;> by_cases hq : q <;> by_cases hr : r <;> by_cases hs : s <;> simp [hp, hq, hr, hs, Scalar.select, IntOp.andi]

/-- A block of weights at an index. -/
theorem tap_square (P : FVec Ideal S262x262 .f32) (Q : FVec Ideal S256x256 .f32) (d e : Fin 7) (a b a' b' : BitVec 32)
    (ha : a = 3#32 - BitVec.ofNat 32 d.val) (ha' : a' = 258#32 - BitVec.ofNat 32 d.val)
    (hb : b = 3#32 - BitVec.ofNat 32 e.val) (hb' : b' = 258#32 - BitVec.ofNat 32 e.val) (p q : ℕ) (hp : p = d.val) (hq : q = e.val)
    (hs : S262x262.Slices ![p, q] S256x256) (i j : Fin 256) :
    select (andi (andi (andi
        (cmpi CmpIPredicate.sge (iota Kind.tc S256x256 32 [0] iota_S256x256_d0_w32) (broadcast S256x256 a))
        (cmpi CmpIPredicate.sle (iota Kind.tc S256x256 32 [0] iota_S256x256_d0_w32) (broadcast S256x256 a')))
        (cmpi CmpIPredicate.sge (iota Kind.tc S256x256 32 [1] iota_S256x256_d1_w32) (broadcast S256x256 b)))
        (cmpi CmpIPredicate.sle (iota Kind.tc S256x256 32 [1] iota_S256x256_d1_w32) (broadcast S256x256 b')))
      (exp (absf (subf Q (extractStridedSlice S256x256 ![p, q] P hs))))
      (broadcast S256x256 (FloatOps.ofBits (F := Ideal) FTy.f32 0#32)) (ix2 i j)
      = weightOn P Q d e i j := by
  subst ha ha' hb hb' hp hq
  pointwise []
  rw [low_bit, high_bit, low_bit, high_bit, select_four]
  unfold weightOn
  refine if_congr Iff.rfl ?_ rfl
  exact congrArg (fun t => Ideal.exp (dist (Q (ix2 i j)) t)) (congrArg₂ (fun r q : Fin 262 => P (ix2 r q))
    (Fin.ext (Nat.add_comm _ _)) (Fin.ext (Nat.add_comm _ _)))

theorem square_block (g : FVec Ideal S256x256 .f32) (i j : Fin 256) :
    shapeCast S1x256x256 g shapeCasts_S256x256_S1x256x256 (ix3 0 i j) = g (ix2 i j) := by
  pointwise []

theorem add_step {S : Shape} {a b : FVec Ideal S .f32} {x : S.Idx} {u v : EReal} (h : a x = u) (h' : b x = v) :
    addf a b x = u + v := by
  rw [← h, ← h']
  rfl

/-- Forty-nine terms added one after the other, row by row, onto a first value. -/
def chain (z : EReal) (T : Fin 7 → Fin 7 → EReal) : EReal :=
  let row (a : EReal) (t : Fin 7 → EReal) : EReal := a + t 0 + t 1 + t 2 + t 3 + t 4 + t 5 + t 6
  row (row (row (row (row (row (row z (T 0)) (T 1)) (T 2)) (T 3)) (T 4)) (T 5)) (T 6)

theorem chain_eq (z : EReal) (T : Fin 7 → Fin 7 → EReal) : chain z T = z + ∑ d : Fin 7, ∑ e : Fin 7, T d e := by
  unfold chain
  simp only [Fin.sum_univ_seven, add_assoc]

/-- The weights as one array over places and positions. -/
def weightsOn (P : S262x262.Idx → EReal) (Q : S256x256.Idx → EReal) (y : S49x256x256.Idx) : EReal :=
  weightOn P Q ⟨(y 0).val / 7, by have := (y 0).isLt; show _ < 7; change (y 0).val < 49 at this; omega⟩
    ⟨(y 0).val % 7, Nat.mod_lt _ (by norm_num)⟩ (y 1) (y 2)

/-- A stored block is the array there. -/
theorem tap_piece (P : FVec Ideal S262x262 .f32) (Q : FVec Ideal S256x256 .f32) (o : ℕ) (ho : o < 49)
    (inb : ∀ t, ![o, 0, 0] t + ![1, 256, 256] t ≤ S49x256x256.size t) (g : S1x256x256.Idx → EReal)
    (hg : ∀ i j, g (ix3 0 i j) = weightOn P Q ⟨o / 7, by omega⟩ ⟨o % 7, Nat.mod_lt _ (by norm_num)⟩ i j)
    (y : S49x256x256.Idx) (x : (Rect.unit (s := S49x256x256) ![o, 0, 0] ![1, 256, 256] inb).shape.Idx)
    (hx : (Rect.unit (s := S49x256x256) ![o, 0, 0] ![1, 256, 256] inb).emb x = y) : g x = weightsOn P Q y := by
  have e0 : (x 0).val = 0 := by have := (x 0).isLt; change (x 0).val < 1 at this; omega
  have hxx : x = ix3 (⟨0, Nat.one_pos⟩ : Fin 1) (x 1) (x 2) := by
    funext t
    fin_cases t
    · exact Fin.ext e0
    · rfl
    · rfl
  have h0 : (y 0).val = o := by
    rw [← hx, Rect.emb_apply]
    show o + 1 * (x 0).val = o
    omega
  have h1 : y 1 = x 1 := by
    rw [← hx]; refine Fin.ext ?_; rw [Rect.emb_apply]
    show 0 + 1 * (x 1).val = (x 1).val
    omega
  have h2 : y 2 = x 2 := by
    rw [← hx]; refine Fin.ext ?_; rw [Rect.emb_apply]
    show 0 + 1 * (x 2).val = (x 2).val
    omega
  have h := hg (x 1) (x 2)
  refine (congrArg g hxx).trans (h.trans ?_)
  unfold weightsOn
  rw [h1, h2]
  subst h0
  rfl

end Cert.RowWindow

end
-- ==== Proof.KernelWeights.lean ====
/- The forty-nine blocks of weights and the reciprocal of their total, as the kernel's scratch buffers hold them. -/
module

public import proofs.«01_k».proof.Proof.KernelTap
public import Idealize.ShloMosaic.Lib.Pipeline.ValueKit
public import Idealize.ShloMosaic.Lib.Tactic.Stretches

@[expose] public section

set_option maxRecDepth 16384
set_option maxHeartbeats 2000000

noncomputable section

namespace Cert.RowWindow

open Idealize.ShloMosaic Cert.KernelIdeal Cert.KernelIdeal.Gen

/-- Every stored block agrees with the array of weights of the two affinity maps. -/
theorem weights_stored (c : Dev nD) (arg1 harg1 arg3 harg3 arg4 harg4 arg5 harg5 arg6 harg6 arg7 harg7 arg10 harg10 arg11 harg11 arg12 harg12 arg13 harg13 x0 x2 x3 x4 x5 x6 x9 x10 x11 x12) (y : S49x256x256.Idx) :
    View.AllAt (kernelRun0_A.sl.HS0_49 (F := Ideal) c arg1 harg1 arg3 harg3 arg4 harg4 arg5 harg5 arg6 harg6 arg7 harg7 arg10 harg10 arg11 harg11 arg12 harg12 arg13 harg13 x0 x2 x3 x4 x5 x6 x9 x10 x11 x12) y
      (weightsOn (kernelRun0_A.sl.r_2 (F := Ideal) c arg1 harg1 arg3 harg3 arg4 harg4 arg5 harg5 arg6 harg6 arg7 harg7 arg10 harg10 arg11 harg11 arg12 harg12 arg13 harg13 x0 x2 x3 x4 x5 x6 x9 x10 x11 x12)
        (kernelRun0_A.sl.r_3 (F := Ideal) c arg1 harg1 arg3 harg3 arg4 harg4 arg5 harg5 arg6 harg6 arg7 harg7 arg10 harg10 arg11 harg11 arg12 harg12 arg13 harg13 x0 x2 x3 x4 x5 x6 x9 x10 x11 x12) y) := by
  unfold kernelRun0_A.sl.HS0_49
  simp only [
    kernelRun0_A.sl.r_4, kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13,
    kernelRun0_A.sl.r_14, kernelRun0_A.sl.r_15, kernelRun0_A.sl.r_16, kernelRun0_A.sl.r_17,
    kernelRun0_A.sl.r_18, kernelRun0_A.sl.r_19, kernelRun0_A.sl.r_20, kernelRun0_A.sl.r_21,
    kernelRun0_A.sl.r_22, kernelRun0_A.sl.r_23, kernelRun0_A.sl.r_24, kernelRun0_A.sl.r_25,
    kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33,
    kernelRun0_A.sl.r_34, kernelRun0_A.sl.r_35, kernelRun0_A.sl.r_36, kernelRun0_A.sl.r_37,
    kernelRun0_A.sl.r_38, kernelRun0_A.sl.r_39, kernelRun0_A.sl.r_40, kernelRun0_A.sl.r_41,
    kernelRun0_A.sl.r_42, kernelRun0_A.sl.r_43, kernelRun0_A.sl.r_44, kernelRun0_A.sl.r_45,
    kernelRun0_A.sl.r_46, kernelRun0_A.sl.r_47, kernelRun0_A.sl.v187,
    kernelRun0_A.sl.v188]
  generalize kernelRun0_A.sl.r_2 (F := Ideal) c arg1 harg1 arg3 harg3 arg4 harg4 arg5 harg5 arg6 harg6 arg7 harg7 arg10 harg10 arg11 harg11 arg12 harg12 arg13 harg13 x0 x2 x3 x4 x5 x6 x9 x10 x11 x12 = P
  generalize kernelRun0_A.sl.r_3 (F := Ideal) c arg1 harg1 arg3 harg3 arg4 harg4 arg5 harg5 arg6 harg6 arg7 harg7 arg10 harg10 arg11 harg11 arg12 harg12 arg13 harg13 x0 x2 x3 x4 x5 x6 x9 x10 x11 x12 = Q
  repeat' first | exact View.allAt_nil _ _ | refine View.allAt_cons _ _ _ ?_ ?_
  all_goals
    intro x hx
    refine tap_piece P Q _ (by decide) _ _ (fun i j => ?_) y x hx
    sl_open_run
    sl_open_pay
    exact (square_block _ i j).trans (tap_square P Q _ _ _ _ _ _ (by decide) (by decide) (by decide) (by decide) _ _
      (by decide) (by decide) _ i j)

/-- One over an array, at an index. -/
theorem one_div_at (g : FVec Ideal S256x256 .f32) (i j : Fin 256) :
    divf (broadcast S256x256 (FloatOps.ofBits (F := Ideal) .f32 0x3F800000#32)) g (ix2 i j) = Ideal.div 1 (g (ix2 i j)) := by
  pointwise []

/-- The reciprocal of the running total of the weights, at an index. -/
theorem reciprocal_total (c : Dev nD) (arg1 harg1 arg3 harg3 arg4 harg4 arg5 harg5 arg6 harg6 arg7 harg7 arg10 harg10 arg11 harg11 arg12 harg12 arg13 harg13 x0 x2 x3 x4 x5 x6 x9 x10 x11 x12) (i j : Fin 256) :
    kernelRun0_A.sl.r_47 (F := Ideal) c arg1 harg1 arg3 harg3 arg4 harg4 arg5 harg5 arg6 harg6 arg7 harg7 arg10 harg10 arg11 harg11 arg12 harg12 arg13 harg13 x0 x2 x3 x4 x5 x6 x9 x10 x11 x12 (ix2 i j)
      = Ideal.div 1 (∑ d : Fin 7, ∑ e : Fin 7, weightOn (kernelRun0_A.sl.r_2 (F := Ideal) c arg1 harg1 arg3 harg3 arg4 harg4 arg5 harg5 arg6 harg6 arg7 harg7 arg10 harg10 arg11 harg11 arg12 harg12 arg13 harg13 x0 x2 x3 x4 x5 x6 x9 x10 x11 x12)
          (kernelRun0_A.sl.r_3 (F := Ideal) c arg1 harg1 arg3 harg3 arg4 harg4 arg5 harg5 arg6 harg6 arg7 harg7 arg10 harg10 arg11 harg11 arg12 harg12 arg13 harg13 x0 x2 x3 x4 x5 x6 x9 x10 x11 x12) d e i j) := by
  refine Eq.trans ?_ (congrArg (Ideal.div 1) ((chain_eq 0 _).trans (zero_add _)))
  simp only [
    kernelRun0_A.sl.r_4, kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13,
    kernelRun0_A.sl.r_14, kernelRun0_A.sl.r_15, kernelRun0_A.sl.r_16, kernelRun0_A.sl.r_17,
    kernelRun0_A.sl.r_18, kernelRun0_A.sl.r_19, kernelRun0_A.sl.r_20, kernelRun0_A.sl.r_21,
    kernelRun0_A.sl.r_22, kernelRun0_A.sl.r_23, kernelRun0_A.sl.r_24, kernelRun0_A.sl.r_25,
    kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33,
    kernelRun0_A.sl.r_34, kernelRun0_A.sl.r_35, kernelRun0_A.sl.r_36, kernelRun0_A.sl.r_37,
    kernelRun0_A.sl.r_38, kernelRun0_A.sl.r_39, kernelRun0_A.sl.r_40, kernelRun0_A.sl.r_41,
    kernelRun0_A.sl.r_42, kernelRun0_A.sl.r_43, kernelRun0_A.sl.r_44, kernelRun0_A.sl.r_45,
    kernelRun0_A.sl.r_46, kernelRun0_A.sl.r_47, kernelRun0_A.sl.v187,
    kernelRun0_A.sl.v188]
  generalize kernelRun0_A.sl.r_2 (F := Ideal) c arg1 harg1 arg3 harg3 arg4 harg4 arg5 harg5 arg6 harg6 arg7 harg7 arg10 harg10 arg11 harg11 arg12 harg12 arg13 harg13 x0 x2 x3 x4 x5 x6 x9 x10 x11 x12 = P
  generalize kernelRun0_A.sl.r_3 (F := Ideal) c arg1 harg1 arg3 harg3 arg4 harg4 arg5 harg5 arg6 harg6 arg7 harg7 arg10 harg10 arg11 harg11 arg12 harg12 arg13 harg13 x0 x2 x3 x4 x5 x6 x9 x10 x11 x12 = Q
  sl_open_run
  sl_open_pay
  unfold chain
  dsimp only
  refine (one_div_at _ i j).trans (congrArg (Ideal.div 1) ?_)
  repeat' first
    | refine add_step ?_ ?_
    | exact tap_square P Q _ _ _ _ _ _ (by decide) (by decide) (by decide) (by decide) _ _ (by decide) (by decide) _ i j
  pointwise []

end Cert.RowWindow

end
-- ==== Proof.KernelMaps.lean ====
/- The padded affinity map and the padded feature maps, as the kernel's body computes them from its blocks: products of a
   table, a map and a second table. -/
module

public import proofs.«01_k».proof.Proof.Gen.KernelIdeal.Frame
public import Idealize.ShloMosaic.Lib.Pointwise
public import Idealize.ShloMosaic.Lib.Pipeline.ValueKit
public import Idealize.ShloMosaic.Lib.Tactic.Stretches

@[expose] public section

set_option maxRecDepth 16384
set_option maxHeartbeats 2000000

noncomputable section

namespace Cert.RowWindow

open Idealize.ShloMosaic Cert.KernelIdeal Cert.KernelIdeal.Gen

/-- A square map between two tables. -/
def sandwich {S : ℕ} (T : Fin 262 → Fin S → EReal) (X : Fin S → Fin S → EReal) (U : Fin S → Fin 262 → EReal)
    (r q : Fin 262) : EReal :=
  ∑ s : Fin S, (∑ p : Fin S, T r p * X p s) * U s q

/-- The padded affinity map of the blocks: the channels of the first group summed at full size, those of the other two at
    their own size, each laid out by its tables. -/
def paddedMap (x0 : S1x3x256x256.Idx → EReal) (x2 x3 : S1x64x64x64.Idx → EReal) (x4 : S3x1x1.Idx → EReal)
    (x5 x6 : S64x1x1.Idx → EReal) (x9 : S262x64.Idx → EReal) (x10 : S64x262.Idx → EReal) (x11 : S262x256.Idx → EReal)
    (x12 : S256x262.Idx → EReal) (r q : Fin 262) : EReal :=
  sandwich (fun r p => x11 (ix2 r p)) (fun p s => ∑ k : Fin 3, x0 (ix4 0 k p s) * x4 (ix3 k 0 0)) (fun s q => x12 (ix2 s q)) r q
    + sandwich (fun r p => x9 (ix2 r p))
        (fun p s => (∑ k : Fin 64, x2 (ix4 0 k p s) * x5 (ix3 k 0 0)) + ∑ k : Fin 64, x3 (ix4 0 k p s) * x6 (ix3 k 0 0))
        (fun s q => x10 (ix2 s q)) r q

theorem paddedMap_at (c : Dev nD) (arg1 harg1 arg3 harg3 arg4 harg4 arg5 harg5 arg6 harg6 arg7 harg7 arg10 harg10 arg11 harg11 arg12 harg12 arg13 harg13 x0 x2 x3 x4 x5 x6 x9 x10 x11 x12) (r q : Fin 262) :
    kernelRun0_A.sl.r_2 (F := Ideal) c arg1 harg1 arg3 harg3 arg4 harg4 arg5 harg5 arg6 harg6 arg7 harg7 arg10 harg10 arg11 harg11 arg12 harg12 arg13 harg13 x0 x2 x3 x4 x5 x6 x9 x10 x11 x12 (ix2 r q)
      = paddedMap x0 x2 x3 x4 x5 x6 x9 x10 x11 x12 r q := by
  sl_open_run
  sl_open_pay
  simp (disch := decide) only [View.ld_unit_lit', View.readAt_eq_ld, Memref.IsWhole.read_unread]
  pointwise []
  rfl

theorem innerMap_at (c : Dev nD) (arg1 harg1 arg3 harg3 arg4 harg4 arg5 harg5 arg6 harg6 arg7 harg7 arg10 harg10 arg11 harg11 arg12 harg12 arg13 harg13 x0 x2 x3 x4 x5 x6 x9 x10 x11 x12) (i j : Fin 256) :
    kernelRun0_A.sl.r_3 (F := Ideal) c arg1 harg1 arg3 harg3 arg4 harg4 arg5 harg5 arg6 harg6 arg7 harg7 arg10 harg10 arg11 harg11 arg12 harg12 arg13 harg13 x0 x2 x3 x4 x5 x6 x9 x10 x11 x12 (ix2 i j)
      = paddedMap x0 x2 x3 x4 x5 x6 x9 x10 x11 x12 ⟨i.val + 3, by omega⟩ ⟨j.val + 3, by omega⟩ := by
  have e : ∀ t : Fin 256, (⟨3 + t.val, by omega⟩ : Fin 262) = ⟨t.val + 3, by omega⟩ := fun t => Fin.ext (Nat.add_comm _ _)
  rw [← e i, ← e j]
  sl_open_run
  sl_open_pay
  simp (disch := decide) only [View.ld_unit_lit', View.readAt_eq_ld, Memref.IsWhole.read_unread]
  pointwise []
  rfl

/-- The padded feature map of one class: the class's columns of the block between two tables. -/
def paddedValue (x1 : S1x32x672.Idx → EReal) (x7 : S262x32.Idx → EReal) (x8 : S32x262.Idx → EReal) (k : Fin 21)
    (r q : Fin 262) : EReal :=
  sandwich (fun r p => x7 (ix2 r p)) (fun p s => x1 (ix3 0 p ⟨32 * k.val + s.val, by omega⟩)) (fun s q => x8 (ix2 s q)) r q

/-- One class's stored block at an index. -/
theorem value_square (X : FVec Ideal S1x32x672 .f32) (T : FVec Ideal S262x32 .f32) (U : FVec Ideal S32x262 .f32) (k : Fin 21)
    (o : ℕ) (ho : o = 32 * k.val) (hs : S262x672.Slices ![0, o] S262x32) (r q : Fin 262) :
    shapeCast S1x262x262
      (matmul dot_S262x32_S32x262_S262x262_1_0_0_1_n_n none
        (extractStridedSlice S262x32 ![0, o]
          (matmul dot_S262x32_S32x672_S262x672_1_0_0_1_n_n none
            (shapeCast S262x32 T shapeCasts_S262x32_S262x32)
            (shapeCast S32x672 X shapeCasts_S1x32x672_S32x672)
            (constant S262x672 FTy.f32 0#32)) hs)
        (shapeCast S32x262 U shapeCasts_S32x262_S32x262)
        (constant S262x262 FTy.f32 0#32)) shapeCasts_S262x262_S1x262x262 (ix3 0 r q)
      = paddedValue X T U k r q := by
  subst ho
  pointwise []
  rfl

/-- The feature maps as one array over classes and positions. -/
def valuesOn (x1 : S1x32x672.Idx → EReal) (x7 : S262x32.Idx → EReal) (x8 : S32x262.Idx → EReal) (y : S21x262x262.Idx) : EReal :=
  paddedValue x1 x7 x8 (y 0) (y 1) (y 2)

/-- A stored block is the array there. -/
theorem value_piece (G : S21x262x262.Idx → EReal) (o : Fin 21)
    (inb : ∀ t, ![o.val, 0, 0] t + ![1, 262, 262] t ≤ S21x262x262.size t) (g : S1x262x262.Idx → EReal)
    (hg : ∀ r q, g (ix3 0 r q) = G (ix3 o r q))
    (y : S21x262x262.Idx) (x : (Rect.unit (s := S21x262x262) ![o.val, 0, 0] ![1, 262, 262] inb).shape.Idx)
    (hx : (Rect.unit (s := S21x262x262) ![o.val, 0, 0] ![1, 262, 262] inb).emb x = y) : g x = G y := by
  have e0 : (x 0).val = 0 := by have := (x 0).isLt; change (x 0).val < 1 at this; omega
  have hxx : x = ix3 (⟨0, Nat.one_pos⟩ : Fin 1) (x 1) (x 2) := by
    funext t
    fin_cases t
    · exact Fin.ext e0
    · rfl
    · rfl
  have hy : y = ix3 o (x 1) (x 2) := by
    rw [← hx]
    funext t
    refine Fin.ext ?_
    rw [Rect.emb_apply]
    fin_cases t
    · show o.val + 1 * (x 0).val = o.val
      omega
    · show 0 + 1 * (x 1).val = (x 1).val
      omega
    · show 0 + 1 * (x 2).val = (x 2).val
      omega
  rw [hy]
  exact (congrArg g hxx).trans (hg (x 1) (x 2))

/-- Every stored block agrees with the array of feature maps. -/
theorem values_stored (c : Dev nD) (arg2 harg2 arg8 harg8 arg9 harg9 x1 x7 x8) (y : S21x262x262.Idx) :
    View.AllAt (kernelRun0_A.sl.HS1_21 (F := Ideal) c arg2 harg2 arg8 harg8 arg9 harg9 x1 x7 x8) y (valuesOn x1 x7 x8 y) := by
  unfold kernelRun0_A.sl.HS1_21
  repeat' first | exact View.allAt_nil _ _ | refine View.allAt_cons _ _ _ ?_ ?_
  all_goals
    intro x hx
    refine value_piece (valuesOn x1 x7 x8) (Fin.mk _ (by decide)) _ _ (fun r q => ?_) y x hx
    sl_open_run
    sl_open_pay
    simp (disch := decide) only [View.ld_unit_lit', View.readAt_eq_ld, Memref.IsWhole.read_unread]
    exact value_square x1 x7 x8 _ _ (by rfl) _ r q

end Cert.RowWindow

end
-- ==== Proof.KernelStrip.lean ====
/- One trip of the kernel's loop over classes: the thirty-two strips of eight rows it stores are the weighted sums of that
   class's feature map, times the reciprocal. -/
module

public import proofs.«01_k».proof.Proof.KernelTap
public import Idealize.ShloMosaic.Lib.Pipeline.ValueKit
public import Idealize.ShloMosaic.Lib.Tactic.Stretches

@[expose] public section

set_option maxRecDepth 16384
set_option maxHeartbeats 2000000

noncomputable section

namespace Cert.RowWindow

open Idealize.ShloMosaic Cert.KernelIdeal Cert.KernelIdeal.Gen

theorem trips_eq : k0_t1_loop.trips = 21 := by decide +kernel

/-- The class a trip works on. -/
def classOf (k : Fin k0_t1_loop.trips) : Fin 21 := ⟨k.val, k.isLt.trans_eq trips_eq⟩

theorem class_word (k : Fin k0_t1_loop.trips) : (Scalar.indexCast (Scf.iv 0#32 1#32 k.val) : BitVec 32).toNat = (classOf k).val := by
  have h : ∀ t : Fin 21, (Scalar.indexCast (Scf.iv 0#32 1#32 t.val) : BitVec 32).toNat = t.val := by decide +kernel
  exact h (classOf k)

theorem class_row (k : Fin k0_t1_loop.trips) : k0_off1 k = ![(classOf k).val, 0, 0] := by
  funext t
  fin_cases t
  · exact class_word k
  · rfl
  · rfl

/-- The weighted sums of the maps `V` with the weights `A`, times `R`. -/
def averagesOn (A : S49x256x256.Idx → EReal) (V : S21x262x262.Idx → EReal) (R : S256x256.Idx → EReal) (c : Fin 21)
    (i j : Fin 256) : EReal :=
  (∑ d : Fin 7, ∑ e : Fin 7, A (ix3 ⟨7 * d.val + e.val, by omega⟩ i j)
    * V (ix3 c ⟨i.val + d.val, by omega⟩ ⟨j.val + e.val, by omega⟩)) * R (ix2 i j)

/-- A strip of one block of weights at an index. -/
theorem rows_at (A : FVec Ideal S49x256x256 .f32) (n : Fin 49) (o : ℕ)
    (inb : S49x256x256.Slices ![n.val, o, 0] S1x8x256) (i : Fin 8) (j r : Fin 256) (hr : r.val = o + i.val) :
    shapeCast S8x256 (extractStridedSlice S1x8x256 ![n.val, o, 0] A inb) shapeCasts_S1x8x256_S8x256 (ix2 i j)
      = A (ix3 n r j) := by
  obtain ⟨r, hlt⟩ := r
  change r = o + i.val at hr
  subst hr
  pointwise []

/-- A strip of one class's map, moved by a window place. -/
theorem window_at (V : FVec Ideal S21x262x262 .f32) (c : Fin 21) (p q : ℕ) (inb : S21x262x262.Slices ![c.val, 0, 0] S1x262x262)
    (hs : S8x262.Slices ![0, q] S8x256) (hs' : S262x262.Slices ![p, 0] S8x262) (i : Fin 8) (j : Fin 256) (r s : Fin 262)
    (hr : r.val = p + i.val) (hq : s.val = q + j.val) :
    extractStridedSlice S8x256 ![0, q]
        (extractStridedSlice S8x262 ![p, 0]
          (shapeCast S262x262 (extractStridedSlice S1x262x262 ![c.val, 0, 0] V inb) shapeCasts_S1x262x262_S262x262) hs') hs
      (ix2 i j) = V (ix3 c r s) := by
  obtain ⟨r, hlt⟩ := r
  obtain ⟨s, hlt'⟩ := s
  change r = p + i.val at hr
  change s = q + j.val at hq
  subst hr hq
  pointwise []

/-- One product of a strip at an index. -/
theorem term_at (A : S49x256x256.Idx → EReal) (V : S21x262x262.Idx → EReal) (c : Fin 21) (d e : Fin 7) (n o p q : ℕ)
    (hn : n = 7 * d.val + e.val) (hp : p = o + d.val) (hq : q = e.val) (off : Fin 3 → ℕ) (hoff : off = ![c.val, 0, 0])
    (inb : ∀ t, ![n, o, 0] t + S1x8x256.size t ≤ S49x256x256.size t)
    (inb' : ∀ t, off t + S1x262x262.size t ≤ S21x262x262.size t)
    (hs : S8x262.Slices ![0, q] S8x256) (hs' : S262x262.Slices ![p, 0] S8x262)
    (i : Fin 8) (j r : Fin 256) (hr : r.val = o + i.val) :
    mulf (F := Ideal) (φ := .f32)
      (shapeCast S8x256 (View.ld (Val := Elt Ideal) (e' := .f32) A (Rect.unit ![n, o, 0] S1x8x256.size inb)) shapeCasts_S1x8x256_S8x256)
      (extractStridedSlice S8x256 ![0, q]
        (extractStridedSlice S8x262 ![p, 0]
          (shapeCast S262x262 (View.ld (Val := Elt Ideal) (e' := .f32) V (Rect.unit off S1x262x262.size inb')) shapeCasts_S1x262x262_S262x262) hs') hs)
      (ix2 i j)
      = A (ix3 ⟨7 * d.val + e.val, by omega⟩ r j) * V (ix3 c ⟨r.val + d.val, by omega⟩ ⟨j.val + e.val, by omega⟩) := by
  subst hn hp hq hoff
  rw [View.ld_unit, View.ld_unit]
  have h1 := rows_at A ⟨7 * d.val + e.val, by omega⟩ o ⟨rfl, inb⟩ i j r hr
  have h2 := window_at V c (o + d.val) e.val ⟨rfl, inb'⟩ hs hs' i j ⟨r.val + d.val, by omega⟩ ⟨j.val + e.val, by omega⟩
    (by show r.val + d.val = o + d.val + i.val; omega) (Nat.add_comm _ _)
  exact congrArg₂ (fun a b : EReal => a * b) h1 h2

/-- A stored strip is the array there. -/
theorem strip_piece (G : Fin 21 → Fin 256 → Fin 256 → EReal) (c : Fin 21) (off : Fin 4 → ℕ) (hc : off 1 = c.val) (h3 : off 3 = 0)
    (inb : ∀ t, off t + ![1, 1, 8, 256] t ≤ S1x21x256x256.size t) (g : S1x1x8x256.Idx → EReal)
    (hg : ∀ (i : Fin 8) (j r : Fin 256), r.val = off 2 + i.val → g (ix4 0 0 i j) = G c r j)
    (y : S1x21x256x256.Idx) (x : (Rect.unit (s := S1x21x256x256) off ![1, 1, 8, 256] inb).shape.Idx)
    (hx : (Rect.unit (s := S1x21x256x256) off ![1, 1, 8, 256] inb).emb x = y) : g x = G (y 1) (y 2) (y 3) := by
  have e0 : (x 0).val = 0 := by have := (x 0).isLt; change (x 0).val < 1 at this; omega
  have e1 : (x 1).val = 0 := by have := (x 1).isLt; change (x 1).val < 1 at this; omega
  have hxx : x = ix4 (⟨0, Nat.one_pos⟩ : Fin 1) (⟨0, Nat.one_pos⟩ : Fin 1) (x 2) (x 3) := by
    funext t
    fin_cases t
    · exact Fin.ext e0
    · exact Fin.ext e1
    · rfl
    · rfl
  have h1 : y 1 = c := by
    rw [← hx]; refine Fin.ext ?_; rw [Rect.emb_apply]
    show off 1 + 1 * (x 1).val = c.val
    omega
  have h2 : (y 2).val = off 2 + (x 2).val := by
    rw [← hx]; rw [Rect.emb_apply]
    show off 2 + 1 * (x 2).val = off 2 + (x 2).val
    omega
  have h4 : y 3 = x 3 := by
    rw [← hx]; refine Fin.ext ?_; rw [Rect.emb_apply]
    show off 3 + 1 * (x 3).val = (x 3).val
    omega
  rw [h1, h4]
  exact (congrArg g hxx).trans (hg (x 2) (x 3) (y 2) h2)

/-- The final product of a strip at an index. -/
theorem strip_end (a : FVec Ideal S8x256 .f32) (R : S256x256.Idx → EReal) (o : ℕ)
    (inb : ∀ t, ![o, 0] t + S8x256.size t ≤ S256x256.size t) (i : Fin 8) (j r : Fin 256) (hr : r.val = o + i.val) (v : EReal)
    (ha : a (ix2 i j) = v) :
    shapeCast S1x1x8x256 (mulf (F := Ideal) (φ := .f32) a (View.ld (Val := Elt Ideal) (e' := .f32) R (Rect.unit ![o, 0] S8x256.size inb)))
      shapeCasts_S8x256_S1x1x8x256 (ix4 0 0 i j) = v * R (ix2 r j) := by
  subst ha
  rw [View.ld_unit]
  obtain ⟨r, hlt⟩ := r
  change r = o + i.val at hr
  subst hr
  pointwise []

/-- Every strip one trip stores agrees with the weighted sums. -/
theorem trip_stored (c : Dev nD) (i : grid0.Coords) (arg1 harg1 arg2 harg2 arg3 harg3 arg4 harg4 arg5 harg5 arg6 harg6 arg7 harg7 arg8 harg8 arg9 harg9 arg10 harg10
    arg11 harg11 arg12 harg12 arg13 harg13 arg14 harg14 arg15 harg15 arg16 harg16 arg17 harg17 X Y Z)
    (k : Fin k0_t1_loop.trips) (y : S1x21x256x256.Idx) :
    View.AllAt (tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X Y Z k) y
      (averagesOn (arg15.view.read (Elt Ideal) X) (arg16.view.read (Elt Ideal) Y) (arg17.view.read (Elt Ideal) Z) (y 1) (y 2) (y 3)) := by
  unfold tripL_k0_t1 trip_k0_t1
  dsimp only
  repeat' first | exact View.allAt_nil _ _ | refine View.allAt_cons _ _ _ ?_ ?_
  all_goals
    intro x hx
    refine strip_piece (averagesOn (arg15.view.read (Elt Ideal) X) (arg16.view.read (Elt Ideal) Y) (arg17.view.read (Elt Ideal) Z))
      (classOf k) _ ?_ ?_ _ _ (fun i j r hr => ?_) y x hx
    rotate_left 2
    · sl_open_run
      sl_open_pay
      simp only [View.readAt_eq_ld]
      generalize arg15.view.read (Elt Ideal) X = A
      generalize arg16.view.read (Elt Ideal) Y = V
      generalize arg17.view.read (Elt Ideal) Z = R
      refine strip_end _ R _ _ i j r hr _ (Eq.trans ?_ ((chain_eq 0 _).trans (zero_add _)))
      unfold chain
      dsimp only
      iterate 49
        refine add_step ?_ (term_at A V (classOf k) _ _ _ _ _ _ (by rfl) (by rfl) (by rfl) _ (class_row k) _ _ _ _ i j r hr)
      pointwise []
    · exact class_word k
    · rfl

end Cert.RowWindow

end
-- ==== Proof.KernelBody.lean ====
/- The kernel's body: what one grid point leaves in its output block is the window average of the padded feature maps with
   the weights of the padded affinity map. -/
module

public import proofs.«01_k».proof.Proof.KernelWeights
public import proofs.«01_k».proof.Proof.KernelMaps
public import proofs.«01_k».proof.Proof.KernelStrip

@[expose] public section

set_option maxRecDepth 16384
set_option maxHeartbeats 2000000

noncomputable section

namespace Cert.RowWindow

open Idealize.ShloMosaic Cert.KernelIdeal Cert.KernelIdeal.Gen

/-! ## The three scratch buffers, read -/

theorem read_weights (c : Dev nD) (arg1 harg1 arg3 harg3 arg4 harg4 arg5 harg5 arg6 harg6 arg7 harg7 arg10 harg10 arg11 harg11 arg12 harg12 arg13 harg13 x0 x2 x3 x4 x5 x6 x9 x10 x11 x12) (v : View sig .tc .vmem S49x256x256 .f32) (y : S49x256x256.Idx) :
    v.read (Elt Ideal) (v.writes (Elt Ideal) v.junk (kernelRun0_A.sl.HS0_49 (F := Ideal) c arg1 harg1 arg3 harg3 arg4 harg4 arg5 harg5 arg6 harg6 arg7 harg7 arg10 harg10 arg11 harg11 arg12 harg12 arg13 harg13 x0 x2 x3 x4 x5 x6 x9 x10 x11 x12)) y
      = weightsOn (kernelRun0_A.sl.r_2 (F := Ideal) c arg1 harg1 arg3 harg3 arg4 harg4 arg5 harg5 arg6 harg6 arg7 harg7 arg10 harg10 arg11 harg11 arg12 harg12 arg13 harg13 x0 x2 x3 x4 x5 x6 x9 x10 x11 x12)
          (kernelRun0_A.sl.r_3 (F := Ideal) c arg1 harg1 arg3 harg3 arg4 harg4 arg5 harg5 arg6 harg6 arg7 harg7 arg10 harg10 arg11 harg11 arg12 harg12 arg13 harg13 x0 x2 x3 x4 x5 x6 x9 x10 x11 x12) y := by
  have h := View.cover_of_tiledL (kernelRun0_A.sl.HS0_49 (F := Ideal) c arg1 harg1 arg3 harg3 arg4 harg4 arg5 harg5 arg6 harg6 arg7 harg7 arg10 harg10 arg11 harg11 arg12 harg12 arg13 harg13 x0 x2 x3 x4 x5 x6 x9 x10 x11 x12)
    S1x256x256.size (by sl_kernel_rfl)
  rw [View.read_writes_eq_canon _ _ _ h]
  exact View.canon_eq_of_allAt _ y _ (h y) (weights_stored c arg1 harg1 arg3 harg3 arg4 harg4 arg5 harg5 arg6 harg6 arg7 harg7 arg10 harg10 arg11 harg11 arg12 harg12 arg13 harg13 x0 x2 x3 x4 x5 x6 x9 x10 x11 x12 y)

theorem read_values (c : Dev nD) (arg2 harg2 arg8 harg8 arg9 harg9 x1 x7 x8) (v : View sig .tc .vmem S21x262x262 .f32)
    (y : S21x262x262.Idx) :
    v.read (Elt Ideal) (v.writes (Elt Ideal) v.junk (kernelRun0_A.sl.HS1_21 (F := Ideal) c arg2 harg2 arg8 harg8 arg9 harg9 x1 x7 x8)) y
      = valuesOn x1 x7 x8 y := by
  have h := View.cover_of_tiledL (kernelRun0_A.sl.HS1_21 (F := Ideal) c arg2 harg2 arg8 harg8 arg9 harg9 x1 x7 x8)
    S1x262x262.size (by sl_kernel_rfl)
  rw [View.read_writes_eq_canon _ _ _ h]
  exact View.canon_eq_of_allAt _ y _ (h y) (values_stored c arg2 harg2 arg8 harg8 arg9 harg9 x1 x7 x8 y)

/-- The reciprocals of the totals. -/
def reciprocalsOn (P : S262x262.Idx → EReal) (Q : S256x256.Idx → EReal) (y : S256x256.Idx) : EReal :=
  Ideal.div 1 (∑ d : Fin 7, ∑ e : Fin 7, weightOn P Q d e (y 0) (y 1))

theorem same_square (g : FVec Ideal S256x256 .f32) (i j : Fin 256) :
    shapeCast S256x256 g shapeCasts_S256x256_S256x256 (ix2 i j) = g (ix2 i j) := by
  pointwise []

theorem read_reciprocals (c : Dev nD) (arg1 harg1 arg3 harg3 arg4 harg4 arg5 harg5 arg6 harg6 arg7 harg7 arg10 harg10 arg11 harg11 arg12 harg12 arg13 harg13 x0 x2 x3 x4 x5 x6 x9 x10 x11 x12) (v : View sig .tc .vmem S256x256 .f32) (i j : Fin 256) :
    v.read (Elt Ideal) (v.writes (Elt Ideal) v.junk (kernelRun0_A.sl.HS2_1 (F := Ideal) c arg1 harg1 arg3 harg3 arg4 harg4 arg5 harg5 arg6 harg6 arg7 harg7 arg10 harg10 arg11 harg11 arg12 harg12 arg13 harg13 x0 x2 x3 x4 x5 x6 x9 x10 x11 x12)) (ix2 i j)
      = reciprocalsOn (kernelRun0_A.sl.r_2 (F := Ideal) c arg1 harg1 arg3 harg3 arg4 harg4 arg5 harg5 arg6 harg6 arg7 harg7 arg10 harg10 arg11 harg11 arg12 harg12 arg13 harg13 x0 x2 x3 x4 x5 x6 x9 x10 x11 x12)
          (kernelRun0_A.sl.r_3 (F := Ideal) c arg1 harg1 arg3 harg3 arg4 harg4 arg5 harg5 arg6 harg6 arg7 harg7 arg10 harg10 arg11 harg11 arg12 harg12 arg13 harg13 x0 x2 x3 x4 x5 x6 x9 x10 x11 x12) (ix2 i j) := by
  have h := View.cover_of_tiledL (kernelRun0_A.sl.HS2_1 (F := Ideal) c arg1 harg1 arg3 harg3 arg4 harg4 arg5 harg5 arg6 harg6 arg7 harg7 arg10 harg10 arg11 harg11 arg12 harg12 arg13 harg13 x0 x2 x3 x4 x5 x6 x9 x10 x11 x12)
    S256x256.size (by sl_kernel_rfl)
  rw [View.read_writes_eq_canon _ _ _ h]
  refine View.canon_eq_of_allAt _ _ _ (h _) ?_
  unfold kernelRun0_A.sl.HS2_1 reciprocalsOn
  have e := reciprocal_total c arg1 harg1 arg3 harg3 arg4 harg4 arg5 harg5 arg6 harg6 arg7 harg7 arg10 harg10 arg11 harg11 arg12 harg12 arg13 harg13 x0 x2 x3 x4 x5 x6 x9 x10 x11 x12 i j
  refine View.allAt_cons _ _ _ ?_ (View.allAt_nil _ _)
  intro x hx
  have hxx : x = ix2 i j := by
    refine Eq.trans ?_ hx
    funext t
    refine Fin.ext ?_
    rw [Rect.emb_apply]
    fin_cases t
    · show (x 0).val = 0 + 1 * (x 0).val
      omega
    · show (x 1).val = 0 + 1 * (x 1).val
      omega
  subst hxx
  unfold k0_pay1
  exact (same_square _ i j).trans e

/-! ## The loop over the classes -/

theorem trips_stored (c : Dev nD) (i : grid0.Coords) (arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X Y Z)
    (y : S1x21x256x256.Idx) (n : ℕ) (hn : n ≤ k0_t1_loop.trips) :
    View.AllAt (pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X Y Z n) y
      (averagesOn (arg15.view.read (Elt Ideal) X) (arg16.view.read (Elt Ideal) Y) (arg17.view.read (Elt Ideal) Z) (y 1) (y 2) (y 3)) := by
  induction n with
  | zero =>
    rw [pb_k0_t1]
    exact View.allAt_nil _ _
  | succ n ih =>
    have h := pb_k0_t1_succ (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X Y Z ⟨n, hn⟩
    intro p hp
    rw [h, List.mem_append] at hp
    rcases hp with hp | hp
    · exact trip_stored c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 X Y Z ⟨n, hn⟩ y p hp
    · exact ih (Nat.le_of_succ_le hn) p hp

/-- The output block of one grid point. -/
theorem body_at (c : Dev nD) (i : grid0.Coords) (arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12) (y : S1x21x256x256.Idx) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 y
      = averagesOn
          (weightsOn (kernelRun0_A.sl.r_2 (F := Ideal) c arg1 harg1 arg3 harg3 arg4 harg4 arg5 harg5 arg6 harg6 arg7 harg7 arg10 harg10 arg11 harg11 arg12 harg12 arg13 harg13 x0 x2 x3 x4 x5 x6 x9 x10 x11 x12)
            (kernelRun0_A.sl.r_3 (F := Ideal) c arg1 harg1 arg3 harg3 arg4 harg4 arg5 harg5 arg6 harg6 arg7 harg7 arg10 harg10 arg11 harg11 arg12 harg12 arg13 harg13 x0 x2 x3 x4 x5 x6 x9 x10 x11 x12))
          (valuesOn x1 x7 x8)
          (reciprocalsOn (kernelRun0_A.sl.r_2 (F := Ideal) c arg1 harg1 arg3 harg3 arg4 harg4 arg5 harg5 arg6 harg6 arg7 harg7 arg10 harg10 arg11 harg11 arg12 harg12 arg13 harg13 x0 x2 x3 x4 x5 x6 x9 x10 x11 x12)
            (kernelRun0_A.sl.r_3 (F := Ideal) c arg1 harg1 arg3 harg3 arg4 harg4 arg5 harg5 arg6 harg6 arg7 harg7 arg10 harg10 arg11 harg11 arg12 harg12 arg13 harg13 x0 x2 x3 x4 x5 x6 x9 x10 x11 x12))
          (y 1) (y 2) (y 3) := by
  have hc := cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12
  unfold out0_A_13
  rw [View.read_writes_eq_canon _ _ _ hc]
  refine View.canon_eq_of_allAt _ y _ (hc y) ?_
  unfold kernelRun0_A
  dsimp only
  have h := trips_stored c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    (arg15.view.writes (Elt Ideal) arg15.view.junk (kernelRun0_A.sl.HS0_49 (F := Ideal) c arg1 harg1 arg3 harg3 arg4 harg4 arg5 harg5 arg6 harg6 arg7 harg7 arg10 harg10 arg11 harg11 arg12 harg12 arg13 harg13 x0 x2 x3 x4 x5 x6 x9 x10 x11 x12))
    (arg16.view.writes (Elt Ideal) arg16.view.junk (kernelRun0_A.sl.HS1_21 (F := Ideal) c arg2 harg2 arg8 harg8 arg9 harg9 x1 x7 x8))
    (arg17.view.writes (Elt Ideal) arg17.view.junk (kernelRun0_A.sl.HS2_1 (F := Ideal) c arg1 harg1 arg3 harg3 arg4 harg4 arg5 harg5 arg6 harg6 arg7 harg7 arg10 harg10 arg11 harg11 arg12 harg12 arg13 harg13 x0 x2 x3 x4 x5 x6 x9 x10 x11 x12))
    y _ le_rfl
  have e1 := funext (read_weights c arg1 harg1 arg3 harg3 arg4 harg4 arg5 harg5 arg6 harg6 arg7 harg7 arg10 harg10 arg11 harg11 arg12 harg12 arg13 harg13 x0 x2 x3 x4 x5 x6 x9 x10 x11 x12 arg15.view)
  have e2 := funext (read_values c arg2 harg2 arg8 harg8 arg9 harg9 x1 x7 x8 arg16.view)
  have e3 : arg17.view.read (Elt Ideal) (arg17.view.writes (Elt Ideal) arg17.view.junk (kernelRun0_A.sl.HS2_1 (F := Ideal) c arg1 harg1 arg3 harg3 arg4 harg4 arg5 harg5 arg6 harg6 arg7 harg7 arg10 harg10 arg11 harg11 arg12 harg12 arg13 harg13 x0 x2 x3 x4 x5 x6 x9 x10 x11 x12))
      = reciprocalsOn (kernelRun0_A.sl.r_2 (F := Ideal) c arg1 harg1 arg3 harg3 arg4 harg4 arg5 harg5 arg6 harg6 arg7 harg7 arg10 harg10 arg11 harg11 arg12 harg12 arg13 harg13 x0 x2 x3 x4 x5 x6 x9 x10 x11 x12)
        (kernelRun0_A.sl.r_3 (F := Ideal) c arg1 harg1 arg3 harg3 arg4 harg4 arg5 harg5 arg6 harg6 arg7 harg7 arg10 harg10 arg11 harg11 arg12 harg12 arg13 harg13 x0 x2 x3 x4 x5 x6 x9 x10 x11 x12) := by
    funext z
    have hz : z = ix2 (z 0) (z 1) := by
      funext t
      fin_cases t <;> rfl
    rw [hz]
    exact read_reciprocals c arg1 harg1 arg3 harg3 arg4 harg4 arg5 harg5 arg6 harg6 arg7 harg7 arg10 harg10 arg11 harg11 arg12 harg12 arg13 harg13 x0 x2 x3 x4 x5 x6 x9 x10 x11 x12 arg17.view (z 0) (z 1)
  rw [e1, e2, e3] at h
  exact h

end Cert.RowWindow

end
-- ==== Proof.Interp.lean ====
/- Linear interpolation over the extended reals: the two neighbours and the weight of a position of a 256-long axis in
   an axis of `S` samples (both ends aligned), the interpolation as a weighted sum over all samples, the exchange of the
   two directions, and its exchange with a linear combination of finite maps. -/
module

public import Mathlib.Data.EReal.Inv
public import Mathlib.Algebra.BigOperators.Fin
public import Mathlib.Tactic.Ring
public import Mathlib.Tactic.Linarith
public import Mathlib.Tactic.Positivity
public import Mathlib.Tactic.NormNum

@[expose] public section

noncomputable section

namespace Cert.RowWindow

/-- The sample below position `y`. -/
def lo (S y : ℕ) : ℕ := y * (S - 1) / 255
/-- The sample above it, kept inside the axis. -/
def hi (S y : ℕ) : ℕ := min (lo S y + 1) (S - 1)
/-- The weight of the sample above. -/
def fr (S y : ℕ) : ℝ := ((y * (S - 1) % 255 : ℕ) : ℝ) / 255

theorem fr_nonneg (S y : ℕ) : 0 ≤ fr S y := by unfold fr; positivity

theorem fr_le_one (S y : ℕ) : fr S y ≤ 1 := by
  unfold fr
  rw [div_le_one (by norm_num)]
  have h : y * (S - 1) % 255 ≤ 255 := (Nat.mod_lt _ (by norm_num)).le
  exact_mod_cast h

theorem lo_lt {S y : ℕ} (hS : 0 < S) (hy : y < 256) : lo S y < S := by
  unfold lo
  have h : y * (S - 1) / 255 ≤ 255 * (S - 1) / 255 := Nat.div_le_div_right (Nat.mul_le_mul_right _ (by omega))
  rw [Nat.mul_div_cancel_left _ (by norm_num)] at h
  omega

theorem hi_lt {S : ℕ} (y : ℕ) (hS : 0 < S) : hi S y < S := by unfold hi; omega

/-- Two values blended with weight `w` on the second. -/
def lerp (w : ℝ) (a b : EReal) : EReal := a * ((1 - w : ℝ) : EReal) + b * (w : EReal)

theorem add_mul_real (a b : EReal) {w : ℝ} (hw : 0 ≤ w) : (a + b) * (w : EReal) = a * w + b * w :=
  EReal.right_distrib_of_nonneg_of_ne_top (EReal.coe_nonneg.2 hw) (EReal.coe_ne_top w) a b

/-- Blending in one direction and then the other is the same either way round. -/
theorem lerp_exchange {v w : ℝ} (hv0 : 0 ≤ v) (hv1 : v ≤ 1) (hw0 : 0 ≤ w) (hw1 : w ≤ 1) (a b c d : EReal) :
    lerp w (lerp v a b) (lerp v c d) = lerp v (lerp w a c) (lerp w b d) := by
  unfold lerp
  rw [add_mul_real _ _ (sub_nonneg.2 hw1), add_mul_real _ _ hw0, add_mul_real _ _ (sub_nonneg.2 hv1),
    add_mul_real _ _ hv0]
  generalize ((1 - v : ℝ) : EReal) = v'
  generalize ((1 - w : ℝ) : EReal) = w'
  rw [mul_right_comm a, mul_right_comm b, mul_right_comm c, mul_right_comm d]
  exact add_add_add_comm _ _ _ _

/-- The weight of sample `p` in the value at position `y`. -/
def tap (S y p : ℕ) : EReal :=
  (if p = lo S y then ((1 - fr S y : ℝ) : EReal) else 0) + (if p = hi S y then ((fr S y : ℝ) : EReal) else 0)

/-- Interpolating is summing all samples at their weights. -/
theorem sum_tap {S y : ℕ} (hS : 0 < S) (hy : y < 256) (X : Fin S → EReal) :
    ∑ p : Fin S, tap S y p.val * X p = lerp (fr S y) (X ⟨lo S y, lo_lt hS hy⟩) (X ⟨hi S y, hi_lt y hS⟩) := by
  have hd : ∀ p : Fin S, tap S y p.val * X p
      = (if p = ⟨lo S y, lo_lt hS hy⟩ then ((1 - fr S y : ℝ) : EReal) * X p else 0)
        + (if p = ⟨hi S y, hi_lt y hS⟩ then ((fr S y : ℝ) : EReal) * X p else 0) := by
    intro p
    unfold tap
    rw [EReal.right_distrib_of_nonneg]
    · simp only [Fin.ext_iff, ite_mul, zero_mul]
    · split_ifs
      · exact EReal.coe_nonneg.2 (sub_nonneg.2 (fr_le_one S y))
      · exact le_rfl
    · split_ifs
      · exact EReal.coe_nonneg.2 (fr_nonneg S y)
      · exact le_rfl
  rw [Finset.sum_congr rfl fun p _ => hd p, Finset.sum_add_distrib, Finset.sum_ite_eq', Finset.sum_ite_eq',
    if_pos (Finset.mem_univ _), if_pos (Finset.mem_univ _), lerp, mul_comm, mul_comm (X ⟨hi S y, _⟩)]

/-- A map of `S` by `S` samples at position `(i, j)`: rows first, then columns. -/
def up (S : ℕ) (hS : 0 < S) (X : Fin S → Fin S → EReal) (i j : Fin 256) : EReal :=
  lerp (fr S j.val)
    (lerp (fr S i.val) (X ⟨lo S i.val, lo_lt hS i.isLt⟩ ⟨lo S j.val, lo_lt hS j.isLt⟩)
      (X ⟨hi S i.val, hi_lt i.val hS⟩ ⟨lo S j.val, lo_lt hS j.isLt⟩))
    (lerp (fr S i.val) (X ⟨lo S i.val, lo_lt hS i.isLt⟩ ⟨hi S j.val, hi_lt j.val hS⟩)
      (X ⟨hi S i.val, hi_lt i.val hS⟩ ⟨hi S j.val, hi_lt j.val hS⟩))

/-- The same with columns first. -/
theorem up_cols_first (S : ℕ) (hS : 0 < S) (X : Fin S → Fin S → EReal) (i j : Fin 256) :
    up S hS X i j = lerp (fr S i.val)
      (lerp (fr S j.val) (X ⟨lo S i.val, lo_lt hS i.isLt⟩ ⟨lo S j.val, lo_lt hS j.isLt⟩)
        (X ⟨lo S i.val, lo_lt hS i.isLt⟩ ⟨hi S j.val, hi_lt j.val hS⟩))
      (lerp (fr S j.val) (X ⟨hi S i.val, hi_lt i.val hS⟩ ⟨lo S j.val, lo_lt hS j.isLt⟩)
        (X ⟨hi S i.val, hi_lt i.val hS⟩ ⟨hi S j.val, hi_lt j.val hS⟩)) := by
  unfold up
  exact lerp_exchange (fr_nonneg _ _) (fr_le_one _ _) (fr_nonneg _ _) (fr_le_one _ _) _ _ _ _

/-- The two matrix products that interpolate a map: weights on the left for the rows, on the right for the columns. -/
theorem sum_tap_both (S : ℕ) (hS : 0 < S) (X : Fin S → Fin S → EReal) (i j : Fin 256) :
    ∑ q : Fin S, (∑ p : Fin S, tap S i.val p.val * X p q) * tap S j.val q.val = up S hS X i j := by
  have h : ∀ q : Fin S, (∑ p : Fin S, tap S i.val p.val * X p q) * tap S j.val q.val
      = tap S j.val q.val * lerp (fr S i.val) (X ⟨lo S i.val, lo_lt hS i.isLt⟩ q) (X ⟨hi S i.val, hi_lt i.val hS⟩ q) := by
    intro q
    rw [sum_tap hS i.isLt (fun p => X p q), mul_comm]
  rw [Finset.sum_congr rfl fun q _ => h q]
  exact sum_tap hS j.isLt (fun q => lerp (fr S i.val) (X ⟨lo S i.val, lo_lt hS i.isLt⟩ q) (X ⟨hi S i.val, hi_lt i.val hS⟩ q))

/-! ## Finite maps -/

theorem lerp_coe (w a b : ℝ) : lerp w (a : EReal) (b : EReal) = ((a * (1 - w) + b * w : ℝ) : EReal) := by
  unfold lerp
  rw [EReal.coe_add, EReal.coe_mul, EReal.coe_mul]

theorem coe_sum {ι : Type} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- Interpolating a linear combination of finite maps is combining the interpolated maps. -/
theorem up_sum {ι : Type} [Fintype ι] (S : ℕ) (hS : 0 < S) (X : ι → Fin S → Fin S → ℝ) (w : ι → ℝ) (i j : Fin 256) :
    up S hS (fun p q => ∑ k, (X k p q : EReal) * (w k : EReal)) i j
      = ∑ k, up S hS (fun p q => (X k p q : EReal)) i j * (w k : EReal) := by
  unfold up
  simp only [← EReal.coe_mul, ← coe_sum, lerp_coe]
  congr 1
  simp only [Finset.sum_mul, ← Finset.sum_add_distrib]
  refine Finset.sum_congr rfl fun k _ => ?_
  ring

/-- Interpolating the sum of two finite maps. -/
theorem up_add (S : ℕ) (hS : 0 < S) (X Y : Fin S → Fin S → ℝ) (i j : Fin 256) :
    up S hS (fun p q => (X p q : EReal) + (Y p q : EReal)) i j
      = up S hS (fun p q => (X p q : EReal)) i j + up S hS (fun p q => (Y p q : EReal)) i j := by
  unfold up
  simp only [← EReal.coe_add, lerp_coe]
  congr 1
  ring

/-- Two groups of finite maps combined before the interpolation, or after it. -/
theorem up_sum_two {ι : Type} [Fintype ι] (S : ℕ) (hS : 0 < S) (X Y : ι → Fin S → Fin S → EReal) (v w : ι → EReal)
    (hX : ∀ k p q, ∃ r : ℝ, X k p q = r) (hY : ∀ k p q, ∃ r : ℝ, Y k p q = r) (hv : ∀ k, ∃ r : ℝ, v k = r)
    (hw : ∀ k, ∃ r : ℝ, w k = r) (i j : Fin 256) :
    up S hS (fun p q => (∑ k, X k p q * v k) + ∑ k, Y k p q * w k) i j
      = (∑ k, up S hS (X k) i j * v k) + ∑ k, up S hS (Y k) i j * w k := by
  choose X' hX' using hX
  choose Y' hY' using hY
  choose v' hv' using hv
  choose w' hw' using hw
  obtain rfl : X = fun k p q => (X' k p q : EReal) := funext fun k => funext fun p => funext fun q => hX' k p q
  obtain rfl : Y = fun k p q => (Y' k p q : EReal) := funext fun k => funext fun p => funext fun q => hY' k p q
  obtain rfl : v = fun k => (v' k : EReal) := funext hv'
  obtain rfl : w = fun k => (w' k : EReal) := funext hw'
  have h1 := up_sum S hS X' v' i j
  have h2 := up_sum S hS Y' w' i j
  have h3 := up_add S hS (fun p q => ∑ k, X' k p q * v' k) (fun p q => ∑ k, Y' k p q * w' k) i j
  simp only [coe_sum, EReal.coe_mul] at h3
  rw [h3, h1, h2]

end Cert.RowWindow

end
-- ==== Proof.Position.lean ====
/- The reference's sampling positions: `floor` and the fraction of `i * (S - 1) / 255` are the integer quotient and
   remainder, for 32 and for 64 samples. -/
module

public import proofs.«01_k».proof.Proof.Interp
public import Idealize.ShloMosaic.PureOps.Ideal
public import Idealize.ShloMosaic.Lib.IdealHost

@[expose] public section

noncomputable section

namespace Cert.RowWindow

open Idealize.ShloMosaic

theorem word_31 : Ideal.ofBits .f32 0x41F80000#32 = ((31 : ℝ) : EReal) := by
  simp [Ideal.ofBits, Ideal.ieee, -EReal.coe_mul]; norm_num

theorem word_63 : Ideal.ofBits .f32 0x427C0000#32 = ((63 : ℝ) : EReal) := by
  simp [Ideal.ofBits, Ideal.ieee, -EReal.coe_mul]; norm_num

theorem word_255 : Ideal.ofBits .f32 0x437F0000#32 = ((255 : ℝ) : EReal) := by
  simp [Ideal.ofBits, Ideal.ieee, -EReal.coe_mul]; norm_num

theorem toInt_ofNat {n : ℕ} (h : n < 2 ^ 31) : (BitVec.ofNat 32 n).toInt = n := by
  rw [BitVec.toInt_eq_toNat_of_lt]
  · simp only [BitVec.toNat_ofNat]; omega
  · simp only [BitVec.toNat_ofNat]; omega

/-- The position of `i` on the axis of `n + 1` samples. -/
def pos (n i : ℕ) : ℝ := (i : ℝ) * n / 255

theorem floor_pos (n i : ℕ) : ⌊pos n i⌋ = ((i * n / 255 : ℕ) : ℤ) := by
  have h := Nat.div_add_mod (i * n) 255
  have hm := Nat.mod_lt (i * n) (show 0 < 255 by norm_num)
  generalize i * n / 255 = q at h ⊢
  generalize i * n % 255 = r at h hm
  have h' : (255 : ℝ) * (q : ℝ) + (r : ℝ) = (i : ℝ) * n := by exact_mod_cast h
  have hm' : (r : ℝ) < 255 := by exact_mod_cast hm
  have hr : (0 : ℝ) ≤ r := Nat.cast_nonneg r
  rw [Int.floor_eq_iff, pos, ← h']
  push_cast
  constructor
  · rw [le_div_iff₀ (by norm_num)]; linarith
  · rw [div_lt_iff₀ (by norm_num)]; linarith

/-- The product and quotient as printed. -/
theorem pos_printed (n i : ℕ) {c : EReal} (hc : c = ((n : ℝ) : EReal)) (hi : i < 256) :
    Ideal.div ((((BitVec.ofNat 32 i).toInt : ℝ) : EReal) * c) (Ideal.ofBits .f32 0x437F0000#32) = ((pos n i : ℝ) : EReal) := by
  rw [toInt_ofNat (by omega), hc, word_255, Ideal.div_coe (by norm_num), ← EReal.coe_mul, ← EReal.coe_mul, pos]
  congr 1
  push_cast
  ring

/-- The sample below, as a word. -/
theorem floor_word (n i : ℕ) (hi : i < 256) (hn : n < 256) :
    Ideal.fptosi 32 (Ideal.liftRound Int.floor ((pos n i : ℝ) : EReal)) = BitVec.ofNat 32 (i * n / 255) := by
  have hle : i * n / 255 ≤ 65535 := (Nat.div_le_self _ _).trans (by nlinarith)
  have h0 : (0 : ℝ) ≤ ((⌊pos n i⌋ : ℤ) : ℝ) := by rw [floor_pos]; exact_mod_cast Nat.zero_le _
  show BitVec.ofInt 32 (max _ (min _ (if (0 : ℝ) ≤ ((⌊pos n i⌋ : ℤ) : ℝ) then ⌊((⌊pos n i⌋ : ℤ) : ℝ)⌋ else _))) = _
  rw [if_pos h0, Int.floor_intCast, floor_pos]
  have hm : max (-((2 ^ (32 - 1) : ℕ) : ℤ)) (min (((2 ^ (32 - 1) : ℕ) : ℤ) - 1) ((i * n / 255 : ℕ) : ℤ)) = ((i * n / 255 : ℕ) : ℤ) := by
    omega
  rw [hm]
  exact BitVec.ofInt_natCast 32 (i * n / 255)

/-- The fraction above the sample below. -/
theorem pos_sub (n i : ℕ) (hi : i < 256) (hn : n < 256) :
    ((pos n i : ℝ) : EReal) - (((BitVec.ofNat 32 (i * n / 255)).toInt : ℝ) : EReal) = ((fr (n + 1) i : ℝ) : EReal) := by
  have hle : i * n / 255 ≤ 65535 := (Nat.div_le_self _ _).trans (by nlinarith)
  rw [toInt_ofNat (by omega), ← EReal.coe_sub]
  congr 1
  unfold pos fr
  have h := Nat.div_add_mod (i * n) 255
  have h' : (255 : ℝ) * ((i * n / 255 : ℕ) : ℝ) + ((i * n % 255 : ℕ) : ℝ) = (i : ℝ) * n := by exact_mod_cast h
  rw [Nat.add_sub_cancel, ← h']
  generalize i * n / 255 = q
  generalize i * n % 255 = r
  push_cast
  ring

end Cert.RowWindow

end
-- ==== Proof.Gather.lean ====
/- The reference's gathers read at an index: each takes one axis of its operand at a vector (or a table) of start
   indices, clipped to the axis. -/
module

public import proofs.«01_k».proof.Proof.Gen.ReferenceIdeal
public import Idealize.ShloMosaic.Lib.Pointwise

@[expose] public section

set_option maxRecDepth 16384

noncomputable section

namespace Cert.RowWindow

open Idealize.ShloMosaic Cert.ReferenceIdeal

variable {α : Type} {w : Nat}

/-- Rows of the coarse 32 by 32 map. -/
theorem rows32_at (x : S4x21x32x32.Idx → α) (idx : IVec S256x1 w) (b : Fin 4) (c : Fin 21) (i : Fin 256) (q : Fin 32) :
    Host.gather gather_S4x21x32x32_S256x1_S4x21x256x32_013_2_n_n_2_1_421132 x idx (ix4 b c i q)
      = x (ix4 b c ⟨min (idx (ix2 i 0)).toInt.toNat 31, by omega⟩ q) := by
  refine congrArg x (funext fun a => Fin.ext ?_)
  match a with
  | ⟨0, _⟩ => exact Nat.zero_add _
  | ⟨1, _⟩ => exact Nat.zero_add _
  | ⟨2, _⟩ =>
    have h : gather_S4x21x32x32_S256x1_S4x21x256x32_013_2_n_n_2_1_421132.siIdx (ix4 b c i q) ⟨0, Nat.one_pos⟩ = ix2 i 0 := by
      funext e; refine Fin.ext ?_
      match e with
      | ⟨0, _⟩ => rfl
      | ⟨1, _⟩ => rfl
    exact congrArg (fun e => min (idx e).toInt.toNat 31) h
  | ⟨3, _⟩ => exact Nat.zero_add _

/-- Columns of the coarse 32 by 32 map. -/
theorem cols32_at (x : S4x21x256x32.Idx → α) (idx : IVec S256x1 w) (b : Fin 4) (c : Fin 21) (i : Fin 256) (j : Fin 256) :
    Host.gather gather_S4x21x256x32_S256x1_S4x21x256x256_012_3_n_n_3_1_4212561 x idx (ix4 b c i j)
      = x (ix4 b c i ⟨min (idx (ix2 j 0)).toInt.toNat 31, by omega⟩) := by
  refine congrArg x (funext fun a => Fin.ext ?_)
  match a with
  | ⟨0, _⟩ => exact Nat.zero_add _
  | ⟨1, _⟩ => exact Nat.zero_add _
  | ⟨2, _⟩ => exact Nat.zero_add _
  | ⟨3, _⟩ =>
    have h : gather_S4x21x256x32_S256x1_S4x21x256x256_012_3_n_n_3_1_4212561.siIdx (ix4 b c i j) ⟨0, Nat.one_pos⟩ = ix2 j 0 := by
      funext e; refine Fin.ext ?_
      match e with
      | ⟨0, _⟩ => rfl
      | ⟨1, _⟩ => rfl
    exact congrArg (fun e => min (idx e).toInt.toNat 31) h

/-- Rows of a 64 by 64 map. -/
theorem rows64_at (x : S4x64x64x64.Idx → α) (idx : IVec S256x1 w) (b : Fin 4) (c : Fin 64) (i : Fin 256) (q : Fin 64) :
    Host.gather gather_S4x64x64x64_S256x1_S4x64x256x64_013_2_n_n_2_1_464164 x idx (ix4 b c i q)
      = x (ix4 b c ⟨min (idx (ix2 i 0)).toInt.toNat 63, by omega⟩ q) := by
  refine congrArg x (funext fun a => Fin.ext ?_)
  match a with
  | ⟨0, _⟩ => exact Nat.zero_add _
  | ⟨1, _⟩ => exact Nat.zero_add _
  | ⟨2, _⟩ =>
    have h : gather_S4x64x64x64_S256x1_S4x64x256x64_013_2_n_n_2_1_464164.siIdx (ix4 b c i q) ⟨0, Nat.one_pos⟩ = ix2 i 0 := by
      funext e; refine Fin.ext ?_
      match e with
      | ⟨0, _⟩ => rfl
      | ⟨1, _⟩ => rfl
    exact congrArg (fun e => min (idx e).toInt.toNat 63) h
  | ⟨3, _⟩ => exact Nat.zero_add _

/-- Columns of a 64 by 64 map. -/
theorem cols64_at (x : S4x64x256x64.Idx → α) (idx : IVec S256x1 w) (b : Fin 4) (c : Fin 64) (i : Fin 256) (j : Fin 256) :
    Host.gather gather_S4x64x256x64_S256x1_S4x64x256x256_012_3_n_n_3_1_4642561 x idx (ix4 b c i j)
      = x (ix4 b c i ⟨min (idx (ix2 j 0)).toInt.toNat 63, by omega⟩) := by
  refine congrArg x (funext fun a => Fin.ext ?_)
  match a with
  | ⟨0, _⟩ => exact Nat.zero_add _
  | ⟨1, _⟩ => exact Nat.zero_add _
  | ⟨2, _⟩ => exact Nat.zero_add _
  | ⟨3, _⟩ =>
    have h : gather_S4x64x256x64_S256x1_S4x64x256x256_012_3_n_n_3_1_4642561.siIdx (ix4 b c i j) ⟨0, Nat.one_pos⟩ = ix2 j 0 := by
      funext e; refine Fin.ext ?_
      match e with
      | ⟨0, _⟩ => rfl
      | ⟨1, _⟩ => rfl
    exact congrArg (fun e => min (idx e).toInt.toNat 63) h

/-- Window rows of the padded affinity map. -/
theorem windowRows_at (x : S4x262x262.Idx → α) (idx : IVec S7x256x1 w) (b : Fin 4) (d : Fin 7) (i : Fin 256) (q : Fin 262) :
    Host.gather gather_S4x262x262_S7x256x1_S4x7x256x262_03_1_n_n_1_2_41262 x idx (ix4 b d i q)
      = x (ix3 b ⟨min (idx (ix3 d i 0)).toInt.toNat 261, by omega⟩ q) := by
  refine congrArg x (funext fun a => Fin.ext ?_)
  match a with
  | ⟨0, _⟩ => exact Nat.zero_add _
  | ⟨1, _⟩ =>
    have h : gather_S4x262x262_S7x256x1_S4x7x256x262_03_1_n_n_1_2_41262.siIdx (ix4 b d i q) ⟨0, Nat.one_pos⟩ = ix3 d i 0 := by
      funext e; refine Fin.ext ?_
      match e with
      | ⟨0, _⟩ => rfl
      | ⟨1, _⟩ => rfl
      | ⟨2, _⟩ => rfl
    exact congrArg (fun e => min (idx e).toInt.toNat 261) h
  | ⟨2, _⟩ => exact Nat.zero_add _

/-- Window columns of the padded affinity map. -/
theorem windowCols_at (x : S4x7x256x262.Idx → α) (idx : IVec S7x256x1 w) (b : Fin 4) (d : Fin 7) (i : Fin 256) (e : Fin 7) (j : Fin 256) :
    Host.gather gather_S4x7x256x262_S7x256x1_S4x7x256x7x256_012_3_n_n_3_2_472561 x idx (ix5 b d i e j)
      = x (ix4 b d i ⟨min (idx (ix3 e j 0)).toInt.toNat 261, by omega⟩) := by
  refine congrArg x (funext fun a => Fin.ext ?_)
  match a with
  | ⟨0, _⟩ => exact Nat.zero_add _
  | ⟨1, _⟩ => exact Nat.zero_add _
  | ⟨2, _⟩ => exact Nat.zero_add _
  | ⟨3, _⟩ =>
    have h : gather_S4x7x256x262_S7x256x1_S4x7x256x7x256_012_3_n_n_3_2_472561.siIdx (ix5 b d i e j) ⟨0, Nat.one_pos⟩ = ix3 e j 0 := by
      funext e; refine Fin.ext ?_
      match e with
      | ⟨0, _⟩ => rfl
      | ⟨1, _⟩ => rfl
      | ⟨2, _⟩ => rfl
    exact congrArg (fun e => min (idx e).toInt.toNat 261) h

/-- Window rows of the padded map of ones. -/
theorem maskRows_at (x : S262x262.Idx → α) (idx : IVec S7x256x1 w) (d : Fin 7) (i : Fin 256) (q : Fin 262) :
    Host.gather gather_S262x262_S7x256x1_S7x256x262_2_0_n_n_0_2_1262 x idx (ix3 d i q)
      = x (ix2 ⟨min (idx (ix3 d i 0)).toInt.toNat 261, by omega⟩ q) := by
  refine congrArg x (funext fun a => Fin.ext ?_)
  match a with
  | ⟨0, _⟩ =>
    have h : gather_S262x262_S7x256x1_S7x256x262_2_0_n_n_0_2_1262.siIdx (ix3 d i q) ⟨0, Nat.one_pos⟩ = ix3 d i 0 := by
      funext e; refine Fin.ext ?_
      match e with
      | ⟨0, _⟩ => rfl
      | ⟨1, _⟩ => rfl
      | ⟨2, _⟩ => rfl
    exact congrArg (fun e => min (idx e).toInt.toNat 261) h
  | ⟨1, _⟩ => exact Nat.zero_add _

/-- Window columns of the padded map of ones. -/
theorem maskCols_at (x : S7x256x262.Idx → α) (idx : IVec S7x256x1 w) (d : Fin 7) (i : Fin 256) (e : Fin 7) (j : Fin 256) :
    Host.gather gather_S7x256x262_S7x256x1_S7x256x7x256_01_2_n_n_2_2_72561 x idx (ix4 d i e j)
      = x (ix3 d i ⟨min (idx (ix3 e j 0)).toInt.toNat 261, by omega⟩) := by
  refine congrArg x (funext fun a => Fin.ext ?_)
  match a with
  | ⟨0, _⟩ => exact Nat.zero_add _
  | ⟨1, _⟩ => exact Nat.zero_add _
  | ⟨2, _⟩ =>
    have h : gather_S7x256x262_S7x256x1_S7x256x7x256_01_2_n_n_2_2_72561.siIdx (ix4 d i e j) ⟨0, Nat.one_pos⟩ = ix3 e j 0 := by
      funext e; refine Fin.ext ?_
      match e with
      | ⟨0, _⟩ => rfl
      | ⟨1, _⟩ => rfl
      | ⟨2, _⟩ => rfl
    exact congrArg (fun e => min (idx e).toInt.toNat 261) h

/-- Window rows of the padded feature maps. -/
theorem valueRows_at (x : S4x21x262x262.Idx → α) (idx : IVec S7x256x1 w) (b : Fin 4) (c : Fin 21) (d : Fin 7) (i : Fin 256) (q : Fin 262) :
    Host.gather gather_S4x21x262x262_S7x256x1_S4x21x7x256x262_014_2_n_n_2_2_4211262 x idx (ix5 b c d i q)
      = x (ix4 b c ⟨min (idx (ix3 d i 0)).toInt.toNat 261, by omega⟩ q) := by
  refine congrArg x (funext fun a => Fin.ext ?_)
  match a with
  | ⟨0, _⟩ => exact Nat.zero_add _
  | ⟨1, _⟩ => exact Nat.zero_add _
  | ⟨2, _⟩ =>
    have h : gather_S4x21x262x262_S7x256x1_S4x21x7x256x262_014_2_n_n_2_2_4211262.siIdx (ix5 b c d i q) ⟨0, Nat.one_pos⟩ = ix3 d i 0 := by
      funext e; refine Fin.ext ?_
      match e with
      | ⟨0, _⟩ => rfl
      | ⟨1, _⟩ => rfl
      | ⟨2, _⟩ => rfl
    exact congrArg (fun e => min (idx e).toInt.toNat 261) h
  | ⟨3, _⟩ => exact Nat.zero_add _

/-- Window columns of the padded feature maps. -/
theorem valueCols_at (x : S4x21x7x256x262.Idx → α) (idx : IVec S7x256x1 w) (b : Fin 4) (c : Fin 21) (d : Fin 7) (i : Fin 256) (e : Fin 7) (j : Fin 256) :
    Host.gather gather_S4x21x7x256x262_S7x256x1_S4x21x7x256x7x256_0123_4_n_n_4_2_42172561 x idx (ix6 b c d i e j)
      = x (ix5 b c d i ⟨min (idx (ix3 e j 0)).toInt.toNat 261, by omega⟩) := by
  refine congrArg x (funext fun a => Fin.ext ?_)
  match a with
  | ⟨0, _⟩ => exact Nat.zero_add _
  | ⟨1, _⟩ => exact Nat.zero_add _
  | ⟨2, _⟩ => exact Nat.zero_add _
  | ⟨3, _⟩ => exact Nat.zero_add _
  | ⟨4, _⟩ =>
    have h : gather_S4x21x7x256x262_S7x256x1_S4x21x7x256x7x256_0123_4_n_n_4_2_42172561.siIdx (ix6 b c d i e j) ⟨0, Nat.one_pos⟩ = ix3 e j 0 := by
      funext e; refine Fin.ext ?_
      match e with
      | ⟨0, _⟩ => rfl
      | ⟨1, _⟩ => rfl
      | ⟨2, _⟩ => rfl
    exact congrArg (fun e => min (idx e).toInt.toNat 261) h

end Cert.RowWindow

end
-- ==== Proof.RefPos.lean ====
/- The reference's sample indices and fractions, read at a position of the 256-long axis. -/
module

public import proofs.«01_k».proof.Proof.Position
public import proofs.«01_k».proof.Proof.Gather
public import proofs.«01_k».proof.Proof.Gen.ReferenceIdeal.Run
public import Idealize.ShloMosaic.Lib.Pointwise

@[expose] public section

set_option maxRecDepth 16384

noncomputable section

namespace Cert.RowWindow

open Idealize.ShloMosaic Idealize.SL.Sem Cert.ReferenceIdeal Cert.ReferenceIdeal.Gen Cert.ReferenceIdeal.Value

variable (V0 : Valuation τ sig (Elt Ideal))

/-! ## Positions, 32 samples -/

theorem v4_at (i : Fin 256) : res_main_v4 (F := Ideal) V0 (ix1 i) = ((pos 31 i.val : ℝ) : EReal) := by
  pointwise [res_main_v4]
  exact pos_printed 31 i.val word_31 i.isLt

theorem v11_at (i : Fin 256) : res_main_v11 (F := Ideal) V0 (ix1 i) = BitVec.ofNat 32 (lo 32 i.val) := by
  pointwise [res_main_v11]
  rw [v4_at]
  exact floor_word 31 i.val i.isLt (by norm_num)

theorem next_word32 : ∀ i : Fin 256, IntOp.minsi (BitVec.ofNat 32 (lo 32 i.val) + 1#32) 31#32 = BitVec.ofNat 32 (hi 32 i.val) := by
  decide +kernel

theorem v21_at (i : Fin 256) : res_main_v21 (F := Ideal) V0 (ix1 i) = BitVec.ofNat 32 (hi 32 i.val) := by
  pointwise [res_main_v21]
  rw [show res_main_v17 (F := Ideal) V0 (ix1 i) = _ from v11_at V0 i]
  exact next_word32 i

theorem v24_at (i : Fin 256) : res_main_v24 (F := Ideal) V0 (ix4 0 0 i 0) = ((fr 32 i.val : ℝ) : EReal) := by
  pointwise [res_main_v24]
  rw [v4_at, v11_at]
  exact pos_sub 31 i.val i.isLt (by norm_num)

theorem v27_at (i : Fin 256) : res_main_v27 (F := Ideal) V0 (ix4 0 0 0 i) = ((fr 32 i.val : ℝ) : EReal) := by
  pointwise [res_main_v27]
  rw [show res_main_v17 (F := Ideal) V0 (ix1 i) = _ from v11_at V0 i, show res_main_v9 (F := Ideal) V0 (ix1 i) = _ from v4_at V0 i]
  exact pos_sub 31 i.val i.isLt (by norm_num)

/-! ## Positions, 64 samples -/

theorem v65_at (i : Fin 256) : res_main_v65 (F := Ideal) V0 (ix1 i) = ((pos 63 i.val : ℝ) : EReal) := by
  pointwise [res_main_v65]
  exact pos_printed 63 i.val word_63 i.isLt

theorem v72_at (i : Fin 256) : res_main_v72 (F := Ideal) V0 (ix1 i) = BitVec.ofNat 32 (lo 64 i.val) := by
  pointwise [res_main_v72]
  rw [v65_at]
  exact floor_word 63 i.val i.isLt (by norm_num)

theorem next_word64 : ∀ i : Fin 256, IntOp.minsi (BitVec.ofNat 32 (lo 64 i.val) + 1#32) 63#32 = BitVec.ofNat 32 (hi 64 i.val) := by
  decide +kernel

theorem v82_at (i : Fin 256) : res_main_v82 (F := Ideal) V0 (ix1 i) = BitVec.ofNat 32 (hi 64 i.val) := by
  pointwise [res_main_v82]
  rw [show res_main_v78 (F := Ideal) V0 (ix1 i) = _ from v72_at V0 i]
  exact next_word64 i

theorem v85_at (i : Fin 256) : res_main_v85 (F := Ideal) V0 (ix4 0 0 i 0) = ((fr 64 i.val : ℝ) : EReal) := by
  pointwise [res_main_v85]
  rw [v65_at, v72_at]
  exact pos_sub 63 i.val i.isLt (by norm_num)

theorem v88_at (i : Fin 256) : res_main_v88 (F := Ideal) V0 (ix4 0 0 0 i) = ((fr 64 i.val : ℝ) : EReal) := by
  pointwise [res_main_v88]
  rw [show res_main_v78 (F := Ideal) V0 (ix1 i) = _ from v72_at V0 i, show res_main_v70 (F := Ideal) V0 (ix1 i) = _ from v65_at V0 i]
  exact pos_sub 63 i.val i.isLt (by norm_num)

/-- The window table holds the sum of the two positions. -/
theorem v196_at (d : Fin 7) (i : Fin 256) : res_main_v196 (F := Ideal) V0 (ix2 d i) = BitVec.ofNat 32 (i.val + d.val) := by
  pointwise [res_main_v196]
  rw [Nat.add_comm]
  exact (BitVec.ofNat_add _ _).symm

/-! ## The gathers at these words -/

theorem clip_word {n m : ℕ} (h : n ≤ m) (hm : m < 2 ^ 31) : min (BitVec.ofNat 32 n).toInt.toNat m = n := by
  rw [toInt_ofNat (by omega)]
  omega

end Cert.RowWindow

end
-- ==== Proof.RefMaps.lean ====
/- The reference's upsampled maps read at a position: four gathered samples blended along the columns and then the
   rows are the bilinear interpolation `up`. -/
module

public import proofs.«01_k».proof.Proof.RefPos

@[expose] public section

set_option maxRecDepth 16384

noncomputable section

namespace Cert.RowWindow

open Idealize.ShloMosaic Idealize.SL.Sem Cert.ReferenceIdeal Cert.ReferenceIdeal.Gen Cert.ReferenceIdeal.Value

theorem one_sub_coe (w : ℝ) : (1 : EReal) - (w : EReal) = ((1 - w : ℝ) : EReal) := by
  rw [EReal.coe_sub, EReal.coe_one]

/-- A sample of the coarse map at two words. -/
theorem coarse_sample (X : S4x21x32x32.Idx → EReal) (y x : IVec S256 32) (b : Fin 4) (c : Fin 21) (i j : Fin 256)
    (p q : Fin 32) (hy : y (ix1 i) = BitVec.ofNat 32 p.val) (hx : x (ix1 j) = BitVec.ofNat 32 q.val) :
    Host.gather gather_S4x21x256x32_S256x1_S4x21x256x256_012_3_n_n_3_1_4212561
      (Host.gather gather_S4x21x32x32_S256x1_S4x21x256x32_013_2_n_n_2_1_421132 X (broadcastInDim S256x1 ![0] bcast_S256_S256x1_0 y))
      (broadcastInDim S256x1 ![0] bcast_S256_S256x1_0 x) (ix4 b c i j) = X (ix4 b c p q) := by
  have ey : broadcastInDim S256x1 ![0] bcast_S256_S256x1_0 y (ix2 i 0) = y (ix1 i) := by pointwise []
  have ex : broadcastInDim S256x1 ![0] bcast_S256_S256x1_0 x (ix2 j 0) = x (ix1 j) := by pointwise []
  refine (cols32_at _ _ b c i j).trans ((rows32_at _ _ b c i _).trans ?_)
  refine congrArg₂ (fun p q => X (ix4 b c p q)) (Fin.ext ?_) (Fin.ext ?_)
  · show min (BitVec.toInt (broadcastInDim _ _ _ _ _)).toNat 31 = _
    rw [ey, hy]
    exact clip_word (by omega) (by norm_num)
  · show min (BitVec.toInt (broadcastInDim _ _ _ _ _)).toNat 31 = _
    rw [ex, hx]
    exact clip_word (by omega) (by norm_num)

/-- A sample of a fine map at two words. -/
theorem fine_sample (X : S4x64x64x64.Idx → EReal) (y x : IVec S256 32) (b : Fin 4) (c : Fin 64) (i j : Fin 256)
    (p q : Fin 64) (hy : y (ix1 i) = BitVec.ofNat 32 p.val) (hx : x (ix1 j) = BitVec.ofNat 32 q.val) :
    Host.gather gather_S4x64x256x64_S256x1_S4x64x256x256_012_3_n_n_3_1_4642561
      (Host.gather gather_S4x64x64x64_S256x1_S4x64x256x64_013_2_n_n_2_1_464164 X (broadcastInDim S256x1 ![0] bcast_S256_S256x1_0 y))
      (broadcastInDim S256x1 ![0] bcast_S256_S256x1_0 x) (ix4 b c i j) = X (ix4 b c p q) := by
  have ey : broadcastInDim S256x1 ![0] bcast_S256_S256x1_0 y (ix2 i 0) = y (ix1 i) := by pointwise []
  have ex : broadcastInDim S256x1 ![0] bcast_S256_S256x1_0 x (ix2 j 0) = x (ix1 j) := by pointwise []
  refine (cols64_at _ _ b c i j).trans ((rows64_at _ _ b c i _).trans ?_)
  refine congrArg₂ (fun p q => X (ix4 b c p q)) (Fin.ext ?_) (Fin.ext ?_)
  · show min (BitVec.toInt (broadcastInDim _ _ _ _ _)).toNat 63 = _
    rw [ey, hy]
    exact clip_word (by omega) (by norm_num)
  · show min (BitVec.toInt (broadcastInDim _ _ _ _ _)).toNat 63 = _
    rw [ex, hx]
    exact clip_word (by omega) (by norm_num)

/-- The blend of four maps by the two fractions. -/
theorem coarse_blend (A B C D : S4x21x256x256.Idx → EReal) (wy : S1x1x256x1.Idx → EReal) (wx : S1x1x1x256.Idx → EReal)
    (b : Fin 4) (c : Fin 21) (i j : Fin 256) (v w : ℝ) (hy : wy (ix4 0 0 i 0) = (w : EReal)) (hx : wx (ix4 0 0 0 j) = (v : EReal)) :
    (addf (F := Ideal) (φ := .f32) (mulf (addf (mulf A (broadcastInDim S4x21x256x256 ![0, 1, 2, 3] bcast_S1x1x1x256_S4x21x256x256_0_1_2_3 (subf (broadcastInDim S1x1x1x256 ![] bcast_S_S1x1x1x256 (constant S_ .f32 0x3F800000#32)) wx)))
        (mulf B (broadcastInDim S4x21x256x256 ![0, 1, 2, 3] bcast_S1x1x1x256_S4x21x256x256_0_1_2_3 wx)))
        (broadcastInDim S4x21x256x256 ![0, 1, 2, 3] bcast_S1x1x256x1_S4x21x256x256_0_1_2_3 (subf (broadcastInDim S1x1x256x1 ![] bcast_S_S1x1x256x1 (constant S_ .f32 0x3F800000#32)) wy)))
      (mulf (addf (mulf C (broadcastInDim S4x21x256x256 ![0, 1, 2, 3] bcast_S1x1x1x256_S4x21x256x256_0_1_2_3 (subf (broadcastInDim S1x1x1x256 ![] bcast_S_S1x1x1x256 (constant S_ .f32 0x3F800000#32)) wx)))
        (mulf D (broadcastInDim S4x21x256x256 ![0, 1, 2, 3] bcast_S1x1x1x256_S4x21x256x256_0_1_2_3 wx)))
        (broadcastInDim S4x21x256x256 ![0, 1, 2, 3] bcast_S1x1x256x1_S4x21x256x256_0_1_2_3 wy))) (ix4 b c i j)
      = lerp w (lerp v (A (ix4 b c i j)) (B (ix4 b c i j))) (lerp v (C (ix4 b c i j)) (D (ix4 b c i j))) := by
  pointwise []
  rw [hy, hx, one_sub_coe, one_sub_coe]
  rfl

theorem fine_blend (A B C D : S4x64x256x256.Idx → EReal) (wy : S1x1x256x1.Idx → EReal) (wx : S1x1x1x256.Idx → EReal)
    (b : Fin 4) (c : Fin 64) (i j : Fin 256) (v w : ℝ) (hy : wy (ix4 0 0 i 0) = (w : EReal)) (hx : wx (ix4 0 0 0 j) = (v : EReal)) :
    (addf (F := Ideal) (φ := .f32) (mulf (addf (mulf A (broadcastInDim S4x64x256x256 ![0, 1, 2, 3] bcast_S1x1x1x256_S4x64x256x256_0_1_2_3 (subf (broadcastInDim S1x1x1x256 ![] bcast_S_S1x1x1x256 (constant S_ .f32 0x3F800000#32)) wx)))
        (mulf B (broadcastInDim S4x64x256x256 ![0, 1, 2, 3] bcast_S1x1x1x256_S4x64x256x256_0_1_2_3 wx)))
        (broadcastInDim S4x64x256x256 ![0, 1, 2, 3] bcast_S1x1x256x1_S4x64x256x256_0_1_2_3 (subf (broadcastInDim S1x1x256x1 ![] bcast_S_S1x1x256x1 (constant S_ .f32 0x3F800000#32)) wy)))
      (mulf (addf (mulf C (broadcastInDim S4x64x256x256 ![0, 1, 2, 3] bcast_S1x1x1x256_S4x64x256x256_0_1_2_3 (subf (broadcastInDim S1x1x1x256 ![] bcast_S_S1x1x1x256 (constant S_ .f32 0x3F800000#32)) wx)))
        (mulf D (broadcastInDim S4x64x256x256 ![0, 1, 2, 3] bcast_S1x1x1x256_S4x64x256x256_0_1_2_3 wx)))
        (broadcastInDim S4x64x256x256 ![0, 1, 2, 3] bcast_S1x1x256x1_S4x64x256x256_0_1_2_3 wy))) (ix4 b c i j)
      = lerp w (lerp v (A (ix4 b c i j)) (B (ix4 b c i j))) (lerp v (C (ix4 b c i j)) (D (ix4 b c i j))) := by
  pointwise []
  rw [hy, hx, one_sub_coe, one_sub_coe]
  rfl

end Cert.RowWindow

end
-- ==== Proof.PadTable.lean ====
/- The table that pads a map by three zeros: its printed words are a one where the row is three below the column, and
   zeros elsewhere. The words are read in runs of rows, one after the other, to bound the memory that reading takes. -/
module

public import proofs.«01_k».proof.KernelIdeal

@[expose] public section

set_option maxRecDepth 16384
set_option maxHeartbeats 2000000
set_option Elab.async false

noncomputable section

namespace Cert.RowWindow

open Idealize.ShloMosaic Cert.KernelIdeal

/-- The words of `n` rows from row `a` are as they should be. -/
abbrev RowsFrom (a n : ℕ) : Prop :=
  ∀ r : Fin n, ∀ p : Fin 256, lit0t (256 * (a + r.val) + p.val) = if a + r.val = p.val + 3 then 0x3F800000#32 else 0#32

theorem rows_from_0 : RowsFrom 0 33 := by decide +kernel

theorem rows_from_33 : RowsFrom 33 33 := by decide +kernel

theorem rows_from_66 : RowsFrom 66 33 := by decide +kernel

theorem rows_from_99 : RowsFrom 99 33 := by decide +kernel

theorem rows_from_132 : RowsFrom 132 33 := by decide +kernel

theorem rows_from_165 : RowsFrom 165 33 := by decide +kernel

theorem rows_from_198 : RowsFrom 198 33 := by decide +kernel

theorem rows_from_231 : RowsFrom 231 31 := by decide +kernel

/-- One word, from the run of rows that holds it. -/
theorem word_of_rows {a n : ℕ} (h : RowsFrom a n) (r : Fin 262) (p : Fin 256) (ha : a ≤ r.val) (hn : r.val < a + n) :
    lit0t (256 * r.val + p.val) = if r.val = p.val + 3 then 0x3F800000#32 else 0#32 := by
  have e := h ⟨r.val - a, by omega⟩ p
  rwa [show a + (r.val - a) = r.val from by omega] at e

/-- Every word of the table, by row and column. -/
theorem pad_words (r : Fin 262) (p : Fin 256) :
    lit0t (256 * r.val + p.val) = if r.val = p.val + 3 then 0x3F800000#32 else 0#32 := by
  by_cases h0 : r.val < 33
  · exact word_of_rows rows_from_0 r p (by omega) h0
  by_cases h33 : r.val < 66
  · exact word_of_rows rows_from_33 r p (by omega) h33
  by_cases h66 : r.val < 99
  · exact word_of_rows rows_from_66 r p (by omega) h66
  by_cases h99 : r.val < 132
  · exact word_of_rows rows_from_99 r p (by omega) h99
  by_cases h132 : r.val < 165
  · exact word_of_rows rows_from_132 r p (by omega) h132
  by_cases h165 : r.val < 198
  · exact word_of_rows rows_from_165 r p (by omega) h165
  by_cases h198 : r.val < 231
  · exact word_of_rows rows_from_198 r p (by omega) h198
  exact word_of_rows rows_from_231 r p (by omega) (by omega)

end Cert.RowWindow

end
-- ==== Proof.KernelTables.lean ====
/- The interpolation tables that the host computes for the kernel, read at an entry: row `r` of a table holds the weights
   of position `r - 3`, and the three rows at either end are zero. -/
module

public import proofs.«01_k».proof.Proof.Gen.KernelIdeal.Frame
public import proofs.«01_k».proof.Proof.Position
public import proofs.«01_k».proof.Proof.RefMaps
public import proofs.«01_k».proof.Proof.PadTable
public import Idealize.ShloMosaic.Lib.Pointwise
public import Idealize.ShloMosaic.Lib.Claim

@[expose] public section

set_option maxRecDepth 16384
set_option maxHeartbeats 2000000

noncomputable section

namespace Cert.RowWindow

open Idealize.ShloMosaic Cert.KernelIdeal Cert.KernelIdeal.Gen

/-- Row `r` of the padded table of an axis of `S` samples. -/
def tableRow (S r p : ℕ) : EReal := if 3 ≤ r ∧ r < 259 then tap S (r - 3) p else 0

/-- Row `r` of the padded identity. -/
def shiftRow (r p : ℕ) : EReal := if r = p + 3 then 1 else 0

/-- A table's entry as the host computes it from the row, the column and the last sample's index. -/
def entryOf (top r p : BitVec 32) : EReal :=
  Scalar.select
    (IntOp.andi (IntOp.cmpi CmpIPredicate.sge (IntOp.subi r 3#32) 0#32) (IntOp.cmpi CmpIPredicate.slt (IntOp.subi r 3#32) 256#32))
    (Scalar.select (IntOp.cmpi CmpIPredicate.eq p (IntOp.divsi ArithUnit.host (IntOp.muli (IntOp.subi r 3#32) top) 255#32))
        (1 - Ideal.div (FloatOps.sitofp (F := Ideal) FTy.f32 (IntOp.subi (IntOp.muli (IntOp.subi r 3#32) top)
            (IntOp.muli (IntOp.divsi ArithUnit.host (IntOp.muli (IntOp.subi r 3#32) top) 255#32) 255#32)))
          (Ideal.ofBits FTy.f32 1132396544#32)) 0
      + Scalar.select (IntOp.cmpi CmpIPredicate.eq p
            (IntOp.minsi (IntOp.addi (IntOp.divsi ArithUnit.host (IntOp.muli (IntOp.subi r 3#32) top) 255#32) 1#32) top))
          (Ideal.div (FloatOps.sitofp (F := Ideal) FTy.f32 (IntOp.subi (IntOp.muli (IntOp.subi r 3#32) top)
            (IntOp.muli (IntOp.divsi ArithUnit.host (IntOp.muli (IntOp.subi r 3#32) top) 255#32) 255#32)))
            (Ideal.ofBits FTy.f32 1132396544#32)) 0)
    0

/-- The bit that tells the rows of the map from the padding. -/
theorem row_bit : ∀ r : Fin 262,
    IntOp.andi (IntOp.cmpi CmpIPredicate.sge (IntOp.subi (BitVec.ofNat 32 r.val) 3#32) 0#32)
      (IntOp.cmpi CmpIPredicate.slt (IntOp.subi (BitVec.ofNat 32 r.val) 3#32) 256#32) = if 3 ≤ r.val ∧ r.val < 259 then 1#1 else 0#1 := by
  decide +kernel

theorem select_bit (p : Prop) [Decidable p] (x y : EReal) : Scalar.select (if p then 1#1 else 0#1) x y = if p then x else y := by
  by_cases h : p <;> simp [h, Scalar.select]

theorem fr_word (S i : ℕ) (w : BitVec 32) (hw : w = BitVec.ofNat 32 (i * (S - 1) % 255)) :
    Ideal.div (FloatOps.sitofp (F := Ideal) FTy.f32 w) (Ideal.ofBits FTy.f32 1132396544#32) = ((fr S i : ℝ) : EReal) := by
  subst hw
  have hm : i * (S - 1) % 255 < 255 := Nat.mod_lt _ (by norm_num)
  show Ideal.div (((BitVec.ofNat 32 (i * (S - 1) % 255)).toInt : ℝ) : EReal) _ = _
  rw [toInt_ofNat (by omega), word_255, Ideal.div_coe (by norm_num), ← EReal.coe_mul, fr]
  congr 1
  rw [Int.cast_natCast]
  ring

/-- Comparing two small words is comparing the numbers. -/
theorem eq_bit {a b : ℕ} (ha : a < 2 ^ 32) (hb : b < 2 ^ 32) :
    IntOp.cmpi CmpIPredicate.eq (BitVec.ofNat 32 a) (BitVec.ofNat 32 b) = if a = b then 1#1 else 0#1 := by
  have h : (BitVec.ofNat 32 a = BitVec.ofNat 32 b) ↔ a = b := by
    rw [← BitVec.toNat_inj, BitVec.toNat_ofNat, BitVec.toNat_ofNat, Nat.mod_eq_of_lt ha, Nat.mod_eq_of_lt hb]
  by_cases e : a = b
  · subst e; simp [IntOp.cmpi]
  · rw [if_neg e]
    exact congrArg BitVec.ofBool (beq_eq_false_iff_ne.2 fun t => e (h.1 t))

/-- The entry, from the three words that its row computes. -/
theorem entryOf_eq (S : ℕ) (hS : 0 < S) (hS' : S ≤ 256) (top : BitVec 32) (r : Fin 262) (q : ℕ) (hq : q < S)
    (hlo : 3 ≤ r.val ∧ r.val < 259 →
      IntOp.divsi ArithUnit.host (IntOp.muli (IntOp.subi (BitVec.ofNat 32 r.val) 3#32) top) 255#32
        = BitVec.ofNat 32 (lo S (r.val - 3)))
    (hhi : 3 ≤ r.val ∧ r.val < 259 →
      IntOp.minsi (IntOp.addi (BitVec.ofNat 32 (lo S (r.val - 3))) 1#32) top = BitVec.ofNat 32 (hi S (r.val - 3)))
    (hfr : 3 ≤ r.val ∧ r.val < 259 →
      IntOp.subi (IntOp.muli (IntOp.subi (BitVec.ofNat 32 r.val) 3#32) top) (IntOp.muli (BitVec.ofNat 32 (lo S (r.val - 3))) 255#32)
        = BitVec.ofNat 32 ((r.val - 3) * (S - 1) % 255)) :
    entryOf top (BitVec.ofNat 32 r.val) (BitVec.ofNat 32 q) = tableRow S r.val q := by
  unfold entryOf tableRow
  rw [row_bit, select_bit]
  refine if_ctx_congr Iff.rfl (fun h => ?_) fun _ => rfl
  have hl : lo S (r.val - 3) < S := lo_lt hS (by omega)
  have hh : hi S (r.val - 3) < S := hi_lt _ hS
  rw [hlo h, hhi h, fr_word S (r.val - 3) _ (hfr h), eq_bit (by omega) (by omega), eq_bit (by omega) (by omega), select_bit,
    select_bit, one_sub_coe, tap]

/-! ## 32 samples -/

theorem low_word32 : ∀ r : Fin 262, 3 ≤ r.val ∧ r.val < 259 →
    IntOp.divsi ArithUnit.host (IntOp.muli (IntOp.subi (BitVec.ofNat 32 r.val) 3#32) 31#32) 255#32
      = BitVec.ofNat 32 (lo 32 (r.val - 3)) := by
  decide +kernel

theorem high_word32 : ∀ r : Fin 262, 3 ≤ r.val ∧ r.val < 259 →
    IntOp.minsi (IntOp.addi (BitVec.ofNat 32 (lo 32 (r.val - 3))) 1#32) 31#32 = BitVec.ofNat 32 (hi 32 (r.val - 3)) := by
  decide +kernel

theorem rest_word32 : ∀ r : Fin 262, 3 ≤ r.val ∧ r.val < 259 →
    IntOp.subi (IntOp.muli (IntOp.subi (BitVec.ofNat 32 r.val) 3#32) 31#32) (IntOp.muli (BitVec.ofNat 32 (lo 32 (r.val - 3))) 255#32)
      = BitVec.ofNat 32 ((r.val - 3) * 31 % 255) := by
  decide +kernel

theorem entry32 (r : Fin 262) (p : Fin 32) : entryOf 31#32 (BitVec.ofNat 32 r.val) (BitVec.ofNat 32 p.val) = tableRow 32 r.val p.val :=
  entryOf_eq 32 (by norm_num) (by norm_num) 31#32 r p.val p.isLt (low_word32 r) (high_word32 r) (rest_word32 r)

/-! ## 64 samples -/

theorem low_word64 : ∀ r : Fin 262, 3 ≤ r.val ∧ r.val < 259 →
    IntOp.divsi ArithUnit.host (IntOp.muli (IntOp.subi (BitVec.ofNat 32 r.val) 3#32) 63#32) 255#32
      = BitVec.ofNat 32 (lo 64 (r.val - 3)) := by
  decide +kernel

theorem high_word64 : ∀ r : Fin 262, 3 ≤ r.val ∧ r.val < 259 →
    IntOp.minsi (IntOp.addi (BitVec.ofNat 32 (lo 64 (r.val - 3))) 1#32) 63#32 = BitVec.ofNat 32 (hi 64 (r.val - 3)) := by
  decide +kernel

theorem rest_word64 : ∀ r : Fin 262, 3 ≤ r.val ∧ r.val < 259 →
    IntOp.subi (IntOp.muli (IntOp.subi (BitVec.ofNat 32 r.val) 3#32) 63#32) (IntOp.muli (BitVec.ofNat 32 (lo 64 (r.val - 3))) 255#32)
      = BitVec.ofNat 32 ((r.val - 3) * 63 % 255) := by
  decide +kernel

theorem entry64 (r : Fin 262) (p : Fin 64) : entryOf 63#32 (BitVec.ofNat 32 r.val) (BitVec.ofNat 32 p.val) = tableRow 64 r.val p.val :=
  entryOf_eq 64 (by norm_num) (by norm_num) 63#32 r p.val p.isLt (low_word64 r) (high_word64 r) (rest_word64 r)

/-! ## The identity -/

theorem word_one : Ideal.ofBits .f32 0x3F800000#32 = (1 : EReal) := by
  simp [Ideal.ofBits, Ideal.ieee]
  rw [← EReal.coe_mul, ← EReal.coe_one]
  norm_num

theorem word_zero : Ideal.ofBits .f32 0#32 = (0 : EReal) := by
  simp [Ideal.ofBits, Ideal.ieee]

theorem shift_entry (r : Fin 262) (p : Fin 256) :
    (FloatOps.ofBits .f32 (lit0 (S262x256.rowMajor (ix2 r p))) : Ideal .f32) = shiftRow r.val p.val := by
  have h : (S262x256.rowMajor (ix2 r p)).val = 256 * r.val + p.val := by
    rw [Shape.rowMajor_val_two]
    show r.val * 256 + p.val = _
    omega
  show Ideal.ofBits .f32 (lit0t (S262x256.rowMajor (ix2 r p)).val) = _
  rw [h, pad_words, shiftRow]
  split_ifs
  · exact word_one
  · exact word_zero

/-! ## The operands -/

variable (m : (ℓ : Loc nD τ sig) → Buf (Elt Ideal) ℓ)

theorem v37_entry (c : Dev nD) (r : Fin 262) (p : Fin 32) : V m c main_v37 (ix2 r p) = tableRow 32 r.val p.val := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  after_results_simp
  simp only [StableHlo.TRef.ofBuf, StableHlo.TRef.toBuf, id]
  simp only [cast_eq]
  pointwise []
  exact entry32 r p

theorem v71_entry (c : Dev nD) (s : Fin 32) (q : Fin 262) : V m c main_v71 (ix2 s q) = tableRow 32 q.val s.val := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  after_results_simp
  simp only [StableHlo.TRef.ofBuf, StableHlo.TRef.toBuf, id]
  simp only [cast_eq]
  pointwise []
  exact entry32 q s

theorem v68_entry (c : Dev nD) (r : Fin 262) (p : Fin 64) : V m c main_v68 (ix2 r p) = tableRow 64 r.val p.val := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  after_results_simp
  simp only [StableHlo.TRef.ofBuf, StableHlo.TRef.toBuf, id]
  simp only [cast_eq]
  pointwise []
  exact entry64 r p

theorem v72_entry (c : Dev nD) (s : Fin 64) (q : Fin 262) : V m c main_v72 (ix2 s q) = tableRow 64 q.val s.val := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  after_results_simp
  simp only [StableHlo.TRef.ofBuf, StableHlo.TRef.toBuf, id]
  simp only [cast_eq]
  pointwise []
  exact entry64 q s

theorem turned_at (x : FVec Ideal S262x256 .f32) (s : Fin 256) (q : Fin 262) :
    transpose S256x262 [1, 0] x transposes_S262x256_S256x262_1_0 (ix2 s q) = x (ix2 q s) := by
  pointwise []

theorem cst_entry (c : Dev nD) (r : Fin 262) (p : Fin 256) : V m c main_cst (ix2 r p) = shiftRow r.val p.val := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  after_results_simp
  exact shift_entry r p

theorem v73_entry (c : Dev nD) (s : Fin 256) (q : Fin 262) : V m c main_v73 (ix2 s q) = shiftRow q.val s.val := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  after_results_simp
  exact (turned_at _ s q).trans (shift_entry q s)

theorem v70_entry (c : Dev nD) (b : Fin 4) (k : Fin 21) (p s : Fin 32) (h : 32 * k.val + s.val < 672) :
    V m c main_v70 (ix3 b p ⟨32 * k.val + s.val, h⟩) = m (c, Proc.devRef .tc main_arg1) (ix4 b k p s) := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  after_results_simp
  pointwise []

theorem v2_entry (c : Dev nD) (k : Fin 3) :
    V m c main_v2 (ix3 k 0 0) = m (c, Proc.devRef .tc main_arg4) (ix4 0 ⟨k.val, by omega⟩ 0 0) := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  after_results_simp
  pointwise []

theorem v4_entry (c : Dev nD) (k : Fin 64) :
    V m c main_v4 (ix3 k 0 0) = m (c, Proc.devRef .tc main_arg4) (ix4 0 ⟨k.val + 3, by omega⟩ 0 0) := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  after_results_simp
  pointwise []
  exact congrArg (fun a => m (c, Proc.devRef .tc main_arg4) (ix4 0 a 0 0)) (Fin.ext (Nat.add_comm _ _))

theorem v6_entry (c : Dev nD) (k : Fin 64) :
    V m c main_v6 (ix3 k 0 0) = m (c, Proc.devRef .tc main_arg4) (ix4 0 ⟨k.val + 67, by omega⟩ 0 0) := by
  simp only [V, V0, hostOps0, hostOps0_1, hostOps0_2, hostOps0_3, hostOps0_4, hostOps0_5, hostOps0_6, hostOps0_7, hostOps0_8, hostOps0_9, hostOps0_10, hostOps0_11, hostOps0_12,
    List.flatten_cons, List.flatten_nil, List.cons_append, List.nil_append, List.append_nil]
  after_results_simp
  pointwise []
  exact congrArg (fun a => m (c, Proc.devRef .tc main_arg4) (ix4 0 a 0 0)) (Fin.ext (Nat.add_comm _ _))

end Cert.RowWindow
-- ==== Proof.Spec.lean ====
/- What both programs compute for one batch entry and one class: the affinity map of the three groups of channels, and
   the weighted average of the upsampled features over the window. -/
module

public import proofs.«01_k».proof.Proof.Interp
public import proofs.«01_k».proof.Proof.Window

@[expose] public section

noncomputable section

namespace Cert.RowWindow

/-- The affinity map, with the two low-level groups combined before they are upsampled. -/
def affinity (X : Fin 3 → Fin 256 → Fin 256 → EReal) (C D : Fin 64 → Fin 64 → Fin 64 → EReal) (w : Fin 131 → EReal)
    (i j : Fin 256) : EReal :=
  (∑ k : Fin 3, X k i j * w ⟨k.val, by omega⟩)
    + up 64 (by norm_num) (fun p q => (∑ k : Fin 64, C k p q * w ⟨k.val + 3, by omega⟩)
        + ∑ k : Fin 64, D k p q * w ⟨k.val + 67, by omega⟩) i j

/-- The affinity map as one sum over all channels, the low-level ones upsampled first. -/
def affinityLate (X : Fin 3 → Fin 256 → Fin 256 → EReal) (C D : Fin 64 → Fin 64 → Fin 64 → EReal) (w : Fin 131 → EReal)
    (i j : Fin 256) : EReal :=
  (∑ k : Fin 3, X k i j * w ⟨k.val, by omega⟩)
    + ((∑ k : Fin 64, up 64 (by norm_num) (C k) i j * w ⟨k.val + 3, by omega⟩)
        + ∑ k : Fin 64, up 64 (by norm_num) (D k) i j * w ⟨k.val + 67, by omega⟩)

/-- The result at one position. -/
def result (X : Fin 3 → Fin 256 → Fin 256 → EReal) (C D : Fin 64 → Fin 64 → Fin 64 → EReal) (w : Fin 131 → EReal)
    (V : Fin 32 → Fin 32 → EReal) (i j : Fin 256) : EReal :=
  average (affinity X C D w) (up 32 (by norm_num) V) i j

theorem sum_groups (f : Fin 131 → EReal) :
    ∑ k, f k = (∑ k : Fin 3, f ⟨k.val, by omega⟩)
      + ((∑ k : Fin 64, f ⟨k.val + 3, by omega⟩) + ∑ k : Fin 64, f ⟨k.val + 67, by omega⟩) := by
  have h := Fin.sum_univ_add (a := 3) (b := 64 + 64) f
  refine h.trans (congrArg₂ (· + ·) rfl ((Fin.sum_univ_add (a := 64) (b := 64) (fun i => f (Fin.natAdd 3 i))).trans ?_))
  refine congrArg₂ (· + ·) ?_ ?_
  · refine Finset.sum_congr rfl fun k _ => congrArg f (Fin.ext ?_)
    show 3 + k.val = k.val + 3
    omega
  · refine Finset.sum_congr rfl fun k _ => congrArg f (Fin.ext ?_)
    show 3 + (64 + k.val) = k.val + 67
    omega

end Cert.RowWindow

end
-- ==== Proof.KernelPad.lean ====
/- What the kernel's products with its tables are: a table, a map and a table again give the padded upsampled map, the
   padded identity the padded map itself; and the weighted averages over padded maps are the averages of the statement. -/
module

public import proofs.«01_k».proof.Proof.KernelBody
public import proofs.«01_k».proof.Proof.KernelTables
public import proofs.«01_k».proof.Proof.Spec

@[expose] public section

set_option maxRecDepth 16384

noncomputable section

namespace Cert.RowWindow

open Idealize.ShloMosaic Cert.KernelIdeal Cert.KernelIdeal.Gen

/-- Rows outside the map give zero whatever the second table is. -/
theorem sandwich_row_zero {S : ℕ} (T : Fin 262 → Fin S → EReal) (X : Fin S → Fin S → EReal) (U : Fin S → Fin 262 → EReal)
    (r q : Fin 262) (h : ∀ p, T r p = 0) : sandwich T X U r q = 0 := by
  unfold sandwich
  refine Finset.sum_eq_zero fun s _ => ?_
  rw [Finset.sum_eq_zero fun p _ => by rw [h, zero_mul], zero_mul]

/-- So do columns. -/
theorem sandwich_col_zero {S : ℕ} (T : Fin 262 → Fin S → EReal) (X : Fin S → Fin S → EReal) (U : Fin S → Fin 262 → EReal)
    (r q : Fin 262) (h : ∀ s, U s q = 0) : sandwich T X U r q = 0 :=
  Finset.sum_eq_zero fun s _ => by rw [h, mul_zero]

/-- The interpolation tables around a map give the padded upsampled map. -/
theorem sandwich_tables (S : ℕ) (hS : 0 < S) (X : Fin S → Fin S → EReal) (r q : Fin 262) :
    sandwich (fun r p => tableRow S r.val p.val) X (fun s q => tableRow S q.val s.val) r q = padded (up S hS X) r.val q.val := by
  unfold padded
  by_cases hr : 3 ≤ r.val ∧ r.val < 259
  · by_cases hq : 3 ≤ q.val ∧ q.val < 259
    · rw [dif_pos ⟨hr, hq⟩, ← sum_tap_both S hS X ⟨r.val - 3, by omega⟩ ⟨q.val - 3, by omega⟩]
      unfold sandwich
      simp only [tableRow, if_pos hr, if_pos hq]
    · rw [dif_neg fun h => hq h.2]
      exact sandwich_col_zero _ _ _ _ _ fun s => if_neg hq
  · rw [dif_neg fun h => hr h.1]
    exact sandwich_row_zero _ _ _ _ _ fun p => if_neg hr

/-- A row of the padded identity picks one entry. -/
theorem sum_shift (r : ℕ) (hr : 3 ≤ r ∧ r < 259) (X : Fin 256 → EReal) :
    ∑ p : Fin 256, shiftRow r p.val * X p = X ⟨r - 3, by omega⟩ := by
  rw [Finset.sum_eq_single (⟨r - 3, by omega⟩ : Fin 256)]
  · rw [shiftRow, if_pos (by show r = r - 3 + 3; omega), one_mul]
  · intro p _ hp
    rw [shiftRow, if_neg, zero_mul]
    intro e
    exact hp (Fin.ext (by show p.val = r - 3; omega))
  · intro h
    exact absurd (Finset.mem_univ _) h

/-- The padded identities around a map give the padded map. -/
theorem sandwich_shift (X : Fin 256 → Fin 256 → EReal) (r q : Fin 262) :
    sandwich (fun r p => shiftRow r.val p.val) X (fun s q => shiftRow q.val s.val) r q = padded X r.val q.val := by
  unfold padded
  by_cases hr : 3 ≤ r.val ∧ r.val < 259
  · by_cases hq : 3 ≤ q.val ∧ q.val < 259
    · rw [dif_pos ⟨hr, hq⟩]
      unfold sandwich
      rw [Finset.sum_congr rfl fun s _ => by rw [sum_shift r.val hr (fun p => X p s), mul_comm]]
      exact sum_shift q.val hq (fun s => X ⟨r.val - 3, by omega⟩ s)
    · rw [dif_neg fun h => hq h.2]
      exact sandwich_col_zero _ _ _ _ _ fun s => if_neg (by omega)
  · rw [dif_neg fun h => hr h.1]
    exact sandwich_row_zero _ _ _ _ _ fun p => if_neg (by omega)

theorem padded_add (X Y : Fin 256 → Fin 256 → EReal) (r q : ℕ) :
    padded X r q + padded Y r q = padded (fun i j => X i j + Y i j) r q := by
  unfold padded
  by_cases h : Inside r q
  · rw [dif_pos h, dif_pos h, dif_pos h]
  · rw [dif_neg h, dif_neg h, dif_neg h, add_zero]

/-- The weights over a padded map. -/
theorem weightOn_padded (F : Fin 256 → Fin 256 → EReal) (P : S262x262.Idx → EReal) (Q : S256x256.Idx → EReal)
    (hP : ∀ r q, P (ix2 r q) = padded F r.val q.val) (hQ : ∀ i j, Q (ix2 i j) = F i j) (d e : Fin 7) (i j : Fin 256) :
    weightOn P Q d e i j = weight F i j d.val e.val := by
  unfold weightOn weight
  rw [hP, hQ]

/-- The block's averages are the averages of the statement. -/
theorem averagesOn_padded (F X : Fin 256 → Fin 256 → EReal) (P : S262x262.Idx → EReal) (Q : S256x256.Idx → EReal)
    (V : S21x262x262.Idx → EReal) (c : Fin 21)
    (hP : ∀ r q, P (ix2 r q) = padded F r.val q.val) (hQ : ∀ i j, Q (ix2 i j) = F i j)
    (hV : ∀ r q, V (ix3 c r q) = padded X r.val q.val) (i j : Fin 256) :
    averagesOn (weightsOn P Q) V (reciprocalsOn P Q) c i j = average F X i j := by
  have hw : ∀ d e : Fin 7, weightsOn P Q (ix3 ⟨7 * d.val + e.val, by omega⟩ i j) = weight F i j d.val e.val := by
    intro d e
    have hd : (⟨(7 * d.val + e.val) / 7, by omega⟩ : Fin 7) = d := Fin.ext (by show (7 * d.val + e.val) / 7 = d.val; omega)
    have he : (⟨(7 * d.val + e.val) % 7, Nat.mod_lt _ (by norm_num)⟩ : Fin 7) = e :=
      Fin.ext (by show (7 * d.val + e.val) % 7 = e.val; omega)
    rw [← weightOn_padded F P Q hP hQ d e i j]
    exact congrArg₂ (fun d e => weightOn P Q d e i j) hd he
  unfold averagesOn average total reciprocalsOn
  refine congrArg₂ (· * ·) ?_ (congrArg (Ideal.div 1) ?_)
  · exact Finset.sum_congr rfl fun d _ => Finset.sum_congr rfl fun e _ => congrArg₂ (· * ·) (hw d e) (hV _ _)
  · exact Finset.sum_congr rfl fun d _ => Finset.sum_congr rfl fun e _ => weightOn_padded F P Q hP hQ d e i j

end Cert.RowWindow
-- ==== Proof.KernelBlock.lean ====
/- The output block of one grid point, for blocks that hold the tables and one image: the result of the statement. -/
module

public import proofs.«01_k».proof.Proof.KernelPad

@[expose] public section

set_option maxRecDepth 16384

noncomputable section

namespace Cert.RowWindow

open Idealize.ShloMosaic Cert.KernelIdeal Cert.KernelIdeal.Gen

/-- The padded affinity map of such blocks. -/
theorem paddedMap_eq (x0 : S1x3x256x256.Idx → EReal) (x2 x3 : S1x64x64x64.Idx → EReal) (x4 : S3x1x1.Idx → EReal)
    (x5 x6 : S64x1x1.Idx → EReal) (x9 : S262x64.Idx → EReal) (x10 : S64x262.Idx → EReal) (x11 : S262x256.Idx → EReal)
    (x12 : S256x262.Idx → EReal)
    (h9 : ∀ r p, x9 (ix2 r p) = tableRow 64 r.val p.val) (h10 : ∀ s q, x10 (ix2 s q) = tableRow 64 q.val s.val)
    (h11 : ∀ r p, x11 (ix2 r p) = shiftRow r.val p.val) (h12 : ∀ s q, x12 (ix2 s q) = shiftRow q.val s.val)
    (X : Fin 3 → Fin 256 → Fin 256 → EReal) (C D : Fin 64 → Fin 64 → Fin 64 → EReal) (w : Fin 131 → EReal)
    (h0 : ∀ k i j, x0 (ix4 0 k i j) = X k i j) (h2 : ∀ k p q, x2 (ix4 0 k p q) = C k p q) (h3 : ∀ k p q, x3 (ix4 0 k p q) = D k p q)
    (h4 : ∀ k, x4 (ix3 k 0 0) = w ⟨k.val, by omega⟩) (h5 : ∀ k, x5 (ix3 k 0 0) = w ⟨k.val + 3, by omega⟩)
    (h6 : ∀ k, x6 (ix3 k 0 0) = w ⟨k.val + 67, by omega⟩)
    (r q : Fin 262) : paddedMap x0 x2 x3 x4 x5 x6 x9 x10 x11 x12 r q = padded (affinity X C D w) r.val q.val := by
  unfold paddedMap
  simp only [h0, h2, h3, h4, h5, h6, h9, h10, h11, h12]
  rw [sandwich_shift, sandwich_tables 64 (by norm_num), padded_add]
  rfl

/-- The block that the body leaves. -/
theorem block_at (c : Dev nD) (i : grid0.Coords) arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17
    (x0 : FVec Ideal S1x3x256x256 .f32) (x1 : FVec Ideal S1x32x672 .f32) (x2 x3 : FVec Ideal S1x64x64x64 .f32)
    (x4 : FVec Ideal S3x1x1 .f32) (x5 x6 : FVec Ideal S64x1x1 .f32) (x7 : FVec Ideal S262x32 .f32) (x8 : FVec Ideal S32x262 .f32)
    (x9 : FVec Ideal S262x64 .f32) (x10 : FVec Ideal S64x262 .f32) (x11 : FVec Ideal S262x256 .f32) (x12 : FVec Ideal S256x262 .f32)
    (h7 : ∀ r p, x7 (ix2 r p) = tableRow 32 r.val p.val) (h8 : ∀ s q, x8 (ix2 s q) = tableRow 32 q.val s.val)
    (h9 : ∀ r p, x9 (ix2 r p) = tableRow 64 r.val p.val) (h10 : ∀ s q, x10 (ix2 s q) = tableRow 64 q.val s.val)
    (h11 : ∀ r p, x11 (ix2 r p) = shiftRow r.val p.val) (h12 : ∀ s q, x12 (ix2 s q) = shiftRow q.val s.val)
    (X : Fin 3 → Fin 256 → Fin 256 → EReal) (C D : Fin 64 → Fin 64 → Fin 64 → EReal) (w : Fin 131 → EReal)
    (h0 : ∀ k i j, x0 (ix4 0 k i j) = X k i j) (h2 : ∀ k p q, x2 (ix4 0 k p q) = C k p q) (h3 : ∀ k p q, x3 (ix4 0 k p q) = D k p q)
    (h4 : ∀ k, x4 (ix3 k 0 0) = w ⟨k.val, by omega⟩) (h5 : ∀ k, x5 (ix3 k 0 0) = w ⟨k.val + 3, by omega⟩)
    (h6 : ∀ k, x6 (ix3 k 0 0) = w ⟨k.val + 67, by omega⟩)
    (V : Fin 21 → Fin 32 → Fin 32 → EReal)
    (h1 : ∀ (k : Fin 21) (p s : Fin 32), x1 (ix3 0 p ⟨32 * k.val + s.val, by omega⟩) = V k p s) (k : Fin 21) (a b : Fin 256) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 (ix4 0 k a b) = result X C D w (V k) a b := by
  have hP := fun r q => (paddedMap_at c arg1 harg1 arg3 harg3 arg4 harg4 arg5 harg5 arg6 harg6 arg7 harg7 arg10 harg10 arg11 harg11 arg12 harg12 arg13 harg13 x0 x2 x3 x4 x5 x6 x9 x10 x11 x12 r q).trans
    (paddedMap_eq x0 x2 x3 x4 x5 x6 x9 x10 x11 x12 h9 h10 h11 h12 X C D w h0 h2 h3 h4 h5 h6 r q)
  have hQ := fun r q => ((innerMap_at c arg1 harg1 arg3 harg3 arg4 harg4 arg5 harg5 arg6 harg6 arg7 harg7 arg10 harg10 arg11 harg11 arg12 harg12 arg13 harg13 x0 x2 x3 x4 x5 x6 x9 x10 x11 x12 r q).trans
    (paddedMap_eq x0 x2 x3 x4 x5 x6 x9 x10 x11 x12 h9 h10 h11 h12 X C D w h0 h2 h3 h4 h5 h6 _ _)).trans (padded_inside (affinity X C D w) r q)
  have hV : ∀ r q, valuesOn x1 x7 x8 (ix3 k r q) = padded (up 32 (by norm_num) (V k)) r.val q.val := by
    intro r q
    show paddedValue x1 x7 x8 k r q = _
    unfold paddedValue
    simp only [h1, h7, h8]
    exact sandwich_tables 32 (by norm_num) (V k) r q
  refine (body_at c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 (ix4 0 k a b)).trans ?_
  have e := averagesOn_padded (affinity X C D w) (up 32 (by norm_num) (V k)) _ _ (valuesOn x1 x7 x8) k hP hQ hV a b
  unfold result
  exact e

end Cert.RowWindow
-- ==== Proof.KernelArray.lean ====
/- The kernel's blocks read off the program's arguments, and the array that the launch leaves: one image per grid point. -/
module

public import proofs.«01_k».proof.Proof.KernelBlock
public import Idealize.ShloMosaic.Lib.Pipeline.ValueKit

@[expose] public section

set_option maxRecDepth 16384
set_option maxHeartbeats 2000000

noncomputable section

namespace Cert.RowWindow

open Idealize.ShloMosaic Idealize.SL.Sem Cert.KernelIdeal Cert.KernelIdeal.Gen

variable (m : (ℓ : Loc nD τ sig) → Buf (Elt Ideal) ℓ)

/-- Which block each window shows at a grid point: the images by the point, the rest the same throughout. -/
theorem idx : ∀ t : Fin cfg0.N, t.val < 4 ∧ win0_0.index t = ![t.val, 0, 0, 0] ∧ win0_1.index t = ![t.val, 0, 0]
    ∧ win0_2.index t = ![t.val, 0, 0, 0] ∧ win0_3.index t = ![t.val, 0, 0, 0] ∧ win0_4.index t = ![0, 0, 0]
    ∧ win0_5.index t = ![0, 0, 0] ∧ win0_6.index t = ![0, 0, 0] ∧ win0_7.index t = ![0, 0] ∧ win0_8.index t = ![0, 0]
    ∧ win0_9.index t = ![0, 0] ∧ win0_10.index t = ![0, 0] ∧ win0_11.index t = ![0, 0] ∧ win0_12.index t = ![0, 0]
    ∧ win0_13.index t = ![t.val, 0, 0, 0] :=
  (by decide +kernel : ∀ t : Fin grid0.N, _)

theorem block0 (c : Dev nD) (t : Fin cfg0.N) (k i j) :
    (iblk m c 0 t : FVec Ideal S1x3x256x256 .f32) (ix4 0 k i j) = m (c, Proc.devRef .tc main_arg0) (ix4 ⟨t.val, (idx t).1⟩ k i j) := by
  blk_ext! [iblk, V, idx t]

theorem block2 (c : Dev nD) (t : Fin cfg0.N) (k i j) :
    (iblk m c 2 t : FVec Ideal S1x64x64x64 .f32) (ix4 0 k i j) = m (c, Proc.devRef .tc main_arg2) (ix4 ⟨t.val, (idx t).1⟩ k i j) := by
  blk_ext! [iblk, V, idx t]

theorem block3 (c : Dev nD) (t : Fin cfg0.N) (k i j) :
    (iblk m c 3 t : FVec Ideal S1x64x64x64 .f32) (ix4 0 k i j) = m (c, Proc.devRef .tc main_arg3) (ix4 ⟨t.val, (idx t).1⟩ k i j) := by
  blk_ext! [iblk, V, idx t]

theorem block1 (c : Dev nD) (t : Fin cfg0.N) (p s) :
    (iblk m c 1 t : FVec Ideal S1x32x672 .f32) (ix3 0 p s) = V m c main_v70 (ix3 ⟨t.val, (idx t).1⟩ p s) := by
  blk_ext! [iblk, idx t]

theorem block4 (c : Dev nD) (t : Fin cfg0.N) (p) :
    (iblk m c 4 t : FVec Ideal S3x1x1 .f32) (ix3 p 0 0) = V m c main_v2 (ix3 p 0 0) := by
  blk_ext! [iblk, idx t]

theorem block5 (c : Dev nD) (t : Fin cfg0.N) (p) :
    (iblk m c 5 t : FVec Ideal S64x1x1 .f32) (ix3 p 0 0) = V m c main_v4 (ix3 p 0 0) := by
  blk_ext! [iblk, idx t]

theorem block6 (c : Dev nD) (t : Fin cfg0.N) (p) :
    (iblk m c 6 t : FVec Ideal S64x1x1 .f32) (ix3 p 0 0) = V m c main_v6 (ix3 p 0 0) := by
  blk_ext! [iblk, idx t]

theorem block7 (c : Dev nD) (t : Fin cfg0.N) (p q) :
    (iblk m c 7 t : FVec Ideal S262x32 .f32) (ix2 p q) = V m c main_v37 (ix2 p q) := by
  blk_ext! [iblk, idx t]

theorem block8 (c : Dev nD) (t : Fin cfg0.N) (p q) :
    (iblk m c 8 t : FVec Ideal S32x262 .f32) (ix2 p q) = V m c main_v71 (ix2 p q) := by
  blk_ext! [iblk, idx t]

theorem block9 (c : Dev nD) (t : Fin cfg0.N) (p q) :
    (iblk m c 9 t : FVec Ideal S262x64 .f32) (ix2 p q) = V m c main_v68 (ix2 p q) := by
  blk_ext! [iblk, idx t]

theorem block10 (c : Dev nD) (t : Fin cfg0.N) (p q) :
    (iblk m c 10 t : FVec Ideal S64x262 .f32) (ix2 p q) = V m c main_v72 (ix2 p q) := by
  blk_ext! [iblk, idx t]

theorem block11 (c : Dev nD) (t : Fin cfg0.N) (p q) :
    (iblk m c 11 t : FVec Ideal S262x256 .f32) (ix2 p q) = V m c main_cst (ix2 p q) := by
  blk_ext! [iblk, idx t]

theorem block12 (c : Dev nD) (t : Fin cfg0.N) (p q) :
    (iblk m c 12 t : FVec Ideal S256x262 .f32) (ix2 p q) = V m c main_v73 (ix2 p q) := by
  blk_ext! [iblk, idx t]

/-- The result for image `b` and class `k`, over the program's arguments. -/
def resultOf (c : Dev nD) (b : Fin 4) (k : Fin 21) (i j : Fin 256) : EReal :=
  result (fun k i j => m (c, Proc.devRef .tc main_arg0) (ix4 b k i j)) (fun k p q => m (c, Proc.devRef .tc main_arg2) (ix4 b k p q))
    (fun k p q => m (c, Proc.devRef .tc main_arg3) (ix4 b k p q)) (fun k => m (c, Proc.devRef .tc main_arg4) (ix4 0 k 0 0))
    (fun p q => m (c, Proc.devRef .tc main_arg1) (ix4 b k p q)) i j

/-- What grid point `t` leaves in the output block. -/
theorem outs_at (c : Dev nD) (t : Fin cfg0.N) (k : Fin 21) (a b : Fin 256) :
    (outsAt0 m c t : FVec Ideal S1x21x256x256 .f32) (ix4 0 k a b) = resultOf m c ⟨t.val, (idx t).1⟩ k a b := by
  unfold outsAt0
  exact block_at c (grid0.coords t) _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t)
    (fun r p => (block7 m c t r p).trans (v37_entry m c r p)) (fun s q => (block8 m c t s q).trans (v71_entry m c s q))
    (fun r p => (block9 m c t r p).trans (v68_entry m c r p)) (fun s q => (block10 m c t s q).trans (v72_entry m c s q))
    (fun r p => (block11 m c t r p).trans (cst_entry m c r p)) (fun s q => (block12 m c t s q).trans (v73_entry m c s q))
    (fun k i j => m (c, Proc.devRef .tc main_arg0) (ix4 ⟨t.val, (idx t).1⟩ k i j))
    (fun k p q => m (c, Proc.devRef .tc main_arg2) (ix4 ⟨t.val, (idx t).1⟩ k p q))
    (fun k p q => m (c, Proc.devRef .tc main_arg3) (ix4 ⟨t.val, (idx t).1⟩ k p q))
    (fun k => m (c, Proc.devRef .tc main_arg4) (ix4 0 k 0 0))
    (fun k i j => block0 m c t k i j) (fun k p q => block2 m c t k p q) (fun k p q => block3 m c t k p q)
    (fun k => (block4 m c t k).trans (v2_entry m c k)) (fun k => (block5 m c t k).trans (v4_entry m c k))
    (fun k => (block6 m c t k).trans (v6_entry m c k))
    (fun k p q => m (c, Proc.devRef .tc main_arg1) (ix4 ⟨t.val, (idx t).1⟩ k p q))
    (fun k p s => (block1 m c t p _).trans (v70_entry m c _ k p s _)) k a b

/-- The array that the launch leaves. -/
def kernelArray (c : Dev nD) : FVec Ideal S4x21x256x256 .f32 := fun y => resultOf m c (y 0) (y 1) (y 2) (y 3)

/-- Where a grid point's block lies in it. -/
theorem place (t : Fin cfg0.N) (k : Fin 21) (a b : Fin 256) :
    (win0_13.blk t).view.emb (ix4 0 k a b) = ix4 ⟨t.val, (idx t).1⟩ k a b := by
  blk_ext [idx t]

theorem outs_place (c : Dev nD) (t : Fin cfg0.N) (y : S1x21x256x256.Idx) :
    (outsAt0 m c t : FVec Ideal S1x21x256x256 .f32) y = kernelArray m c ((win0_13.blk t).view.emb y) := by
  have hy : y = ix4 0 (y 1) (y 2) (y 3) := by
    funext a
    fin_cases a
    · exact Subsingleton.elim (α := Fin 1) _ _
    · rfl
    · rfl
    · rfl
  rw [hy]
  exact (outs_at m c t (y 1) (y 2) (y 3)).trans (congrArg (kernelArray m c) (place t (y 1) (y 2) (y 3))).symm

theorem final (c : Dev nD) : (dats m 0 c).arrAt 13 (cfgs 0).N = kernelArray m c := by
  refine (dats m 0 c).arrAt_eq_of_covers 13 _ (by decide +kernel) fun t hf y => ?_
  blk_simp [idx t]
  rw [after0_13]
  exact outs_place m c t y

/-- The program's result: the launch's array with its rows joined and the class axis moved last. -/
def kernelOut (c : Dev nD) : FVec Ideal S4x65536x21 .f32 :=
  transpose S4x65536x21 [0, 2, 1]
    (shapeCast S4x21x65536 (kernelArray m c) shapeCasts_S4x21x256x256_S4x21x65536) transposes_S4x21x65536_S4x65536x21_0_2_1

theorem kernelOut_at (c : Dev nD) (b : Fin 4) (n : Fin 65536) (k : Fin 21) :
    kernelOut m c (ix3 b n k) = resultOf m c b k ⟨n.val / 256, by omega⟩ ⟨n.val % 256, by omega⟩ := by
  unfold kernelOut
  pointwise []
  rfl

/-- The lines after the launch leave it. -/
theorem tail_result (c : Dev nD) : Pipeline.afterTail₀ cfgs (dats m) 0 (V0 m) [hostOps1] c main_v76 = kernelOut m c := by
  have e : Pipeline.withArrays (cfgs 0).spec c (V0 m c) (fun w => (dats m 0 c).arrAt w (cfgs 0).N) (Proc.devRef .tc main_v74)
      = kernelArray m c :=
    (Pipeline.withArrays_arr (cfgs 0).spec launch0.win.arr_inj c (V0 m c)
      (fun w => (dats m 0 c).arrAt w (cfgs 0).N) 13).trans (final m c)
  unfold Pipeline.afterTail₀
  generalize Pipeline.withArrays (cfgs 0).spec c (V0 m c) (fun w => (dats m 0 c).arrAt w (cfgs 0).N) = U at e ⊢
  simp only [hostOps1, List.flatten_cons, List.flatten_nil, List.append_nil]
  after_results_simp
  rw [e]
  rfl

/-- The run: the result array, and the arguments as they were. -/
theorem kernel_run (g : Dev nD → PrngReg) :
    θ_run (defs (F := Ideal)) (onTc (τ := τ) (main (F := Ideal))) ⟨m, fun _ => 0, g⟩ (fun r => ∀ c : Dev nD,
      r.2.mem ((c.tc : Thread nD τ).loc main_v76) = kernelOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  refine θ_run_mono (θ_run_and (unchanged m g) (run_main m g)) fun r hr c => ⟨?_, hr.1 c⟩
  exact ((hr.2 c).2 main_v76 (by decide)).trans (tail_result m c)

end Cert.RowWindow
-- ==== Proof.RefAffinity.lean ====
/- The reference's three upsampled maps and the affinity map it takes its weights from. -/
module

public import proofs.«01_k».proof.Proof.RefMaps
public import proofs.«01_k».proof.Proof.Spec

@[expose] public section

set_option maxRecDepth 16384

noncomputable section

namespace Cert.RowWindow

open Idealize.ShloMosaic Idealize.SL.Sem Cert.ReferenceIdeal Cert.ReferenceIdeal.Gen Cert.ReferenceIdeal.Value

variable (V0 : Valuation τ sig (Elt Ideal))

/-- The upsampled features. -/
def coarseMap : S4x21x256x256.Idx → EReal :=
  (show FVec Ideal S4x21x256x256 .f32 from (addf (mulf (addf (mulf (Host.gather gather_S4x21x256x32_S256x1_S4x21x256x256_012_3_n_n_3_1_4212561 (res_main_v29 V0) (broadcastInDim S256x1 ![0] bcast_S256_S256x1_0 (res_main_v17 V0))) (broadcastInDim S4x21x256x256 ![0, 1, 2, 3] bcast_S1x1x1x256_S4x21x256x256_0_1_2_3 (subf (broadcastInDim S1x1x1x256 ![] bcast_S_S1x1x1x256 (constant S_ .f32 0x3F800000#32)) (res_main_v27 V0)))) (mulf (Host.gather gather_S4x21x256x32_S256x1_S4x21x256x256_012_3_n_n_3_1_4212561 (res_main_v29 V0) (broadcastInDim S256x1 ![0] bcast_S256_S256x1_0 (res_main_v21 V0))) (broadcastInDim S4x21x256x256 ![0, 1, 2, 3] bcast_S1x1x1x256_S4x21x256x256_0_1_2_3 (res_main_v27 V0)))) (broadcastInDim S4x21x256x256 ![0, 1, 2, 3] bcast_S1x1x256x1_S4x21x256x256_0_1_2_3 (subf (broadcastInDim S1x1x256x1 ![] bcast_S_S1x1x256x1 (constant S_ .f32 0x3F800000#32)) (res_main_v24 V0)))) (mulf (addf (mulf (Host.gather gather_S4x21x256x32_S256x1_S4x21x256x256_012_3_n_n_3_1_4212561 (res_main_v31 V0) (broadcastInDim S256x1 ![0] bcast_S256_S256x1_0 (res_main_v17 V0))) (broadcastInDim S4x21x256x256 ![0, 1, 2, 3] bcast_S1x1x1x256_S4x21x256x256_0_1_2_3 (subf (broadcastInDim S1x1x1x256 ![] bcast_S_S1x1x1x256 (constant S_ .f32 0x3F800000#32)) (res_main_v27 V0)))) (mulf (Host.gather gather_S4x21x256x32_S256x1_S4x21x256x256_012_3_n_n_3_1_4212561 (res_main_v31 V0) (broadcastInDim S256x1 ![0] bcast_S256_S256x1_0 (res_main_v21 V0))) (broadcastInDim S4x21x256x256 ![0, 1, 2, 3] bcast_S1x1x1x256_S4x21x256x256_0_1_2_3 (res_main_v27 V0)))) (broadcastInDim S4x21x256x256 ![0, 1, 2, 3] bcast_S1x1x256x1_S4x21x256x256_0_1_2_3 (res_main_v24 V0)))))

/-- The first upsampled low-level map. -/
def fineMap1 : S4x64x256x256.Idx → EReal :=
  (show FVec Ideal S4x64x256x256 .f32 from (addf (mulf (addf (mulf (Host.gather gather_S4x64x256x64_S256x1_S4x64x256x256_012_3_n_n_3_1_4642561 (res_main_v90 V0) (broadcastInDim S256x1 ![0] bcast_S256_S256x1_0 (res_main_v78 V0))) (broadcastInDim S4x64x256x256 ![0, 1, 2, 3] bcast_S1x1x1x256_S4x64x256x256_0_1_2_3 (subf (broadcastInDim S1x1x1x256 ![] bcast_S_S1x1x1x256 (constant S_ .f32 0x3F800000#32)) (res_main_v88 V0)))) (mulf (Host.gather gather_S4x64x256x64_S256x1_S4x64x256x256_012_3_n_n_3_1_4642561 (res_main_v90 V0) (broadcastInDim S256x1 ![0] bcast_S256_S256x1_0 (res_main_v82 V0))) (broadcastInDim S4x64x256x256 ![0, 1, 2, 3] bcast_S1x1x1x256_S4x64x256x256_0_1_2_3 (res_main_v88 V0)))) (broadcastInDim S4x64x256x256 ![0, 1, 2, 3] bcast_S1x1x256x1_S4x64x256x256_0_1_2_3 (subf (broadcastInDim S1x1x256x1 ![] bcast_S_S1x1x256x1 (constant S_ .f32 0x3F800000#32)) (res_main_v85 V0)))) (mulf (addf (mulf (Host.gather gather_S4x64x256x64_S256x1_S4x64x256x256_012_3_n_n_3_1_4642561 (res_main_v92 V0) (broadcastInDim S256x1 ![0] bcast_S256_S256x1_0 (res_main_v78 V0))) (broadcastInDim S4x64x256x256 ![0, 1, 2, 3] bcast_S1x1x1x256_S4x64x256x256_0_1_2_3 (subf (broadcastInDim S1x1x1x256 ![] bcast_S_S1x1x1x256 (constant S_ .f32 0x3F800000#32)) (res_main_v88 V0)))) (mulf (Host.gather gather_S4x64x256x64_S256x1_S4x64x256x256_012_3_n_n_3_1_4642561 (res_main_v92 V0) (broadcastInDim S256x1 ![0] bcast_S256_S256x1_0 (res_main_v82 V0))) (broadcastInDim S4x64x256x256 ![0, 1, 2, 3] bcast_S1x1x1x256_S4x64x256x256_0_1_2_3 (res_main_v88 V0)))) (broadcastInDim S4x64x256x256 ![0, 1, 2, 3] bcast_S1x1x256x1_S4x64x256x256_0_1_2_3 (res_main_v85 V0)))))

/-- The second upsampled low-level map. -/
def fineMap2 : S4x64x256x256.Idx → EReal :=
  (show FVec Ideal S4x64x256x256 .f32 from (addf (mulf (addf (mulf (Host.gather gather_S4x64x256x64_S256x1_S4x64x256x256_012_3_n_n_3_1_4642561 (res_main_v151 V0) (broadcastInDim S256x1 ![0] bcast_S256_S256x1_0 (res_main_v139 V0))) (broadcastInDim S4x64x256x256 ![0, 1, 2, 3] bcast_S1x1x1x256_S4x64x256x256_0_1_2_3 (subf (broadcastInDim S1x1x1x256 ![] bcast_S_S1x1x1x256 (constant S_ .f32 0x3F800000#32)) (res_main_v149 V0)))) (mulf (Host.gather gather_S4x64x256x64_S256x1_S4x64x256x256_012_3_n_n_3_1_4642561 (res_main_v151 V0) (broadcastInDim S256x1 ![0] bcast_S256_S256x1_0 (res_main_v143 V0))) (broadcastInDim S4x64x256x256 ![0, 1, 2, 3] bcast_S1x1x1x256_S4x64x256x256_0_1_2_3 (res_main_v149 V0)))) (broadcastInDim S4x64x256x256 ![0, 1, 2, 3] bcast_S1x1x256x1_S4x64x256x256_0_1_2_3 (subf (broadcastInDim S1x1x256x1 ![] bcast_S_S1x1x256x1 (constant S_ .f32 0x3F800000#32)) (res_main_v146 V0)))) (mulf (addf (mulf (Host.gather gather_S4x64x256x64_S256x1_S4x64x256x256_012_3_n_n_3_1_4642561 (res_main_v153 V0) (broadcastInDim S256x1 ![0] bcast_S256_S256x1_0 (res_main_v139 V0))) (broadcastInDim S4x64x256x256 ![0, 1, 2, 3] bcast_S1x1x1x256_S4x64x256x256_0_1_2_3 (subf (broadcastInDim S1x1x1x256 ![] bcast_S_S1x1x1x256 (constant S_ .f32 0x3F800000#32)) (res_main_v149 V0)))) (mulf (Host.gather gather_S4x64x256x64_S256x1_S4x64x256x256_012_3_n_n_3_1_4642561 (res_main_v153 V0) (broadcastInDim S256x1 ![0] bcast_S256_S256x1_0 (res_main_v143 V0))) (broadcastInDim S4x64x256x256 ![0, 1, 2, 3] bcast_S1x1x1x256_S4x64x256x256_0_1_2_3 (res_main_v149 V0)))) (broadcastInDim S4x64x256x256 ![0, 1, 2, 3] bcast_S1x1x256x1_S4x64x256x256_0_1_2_3 (res_main_v146 V0)))))

theorem lo_ref32 (i : Fin 256) : lo 32 i.val < 32 := lo_lt (by norm_num) i.isLt
theorem lo_ref64 (i : Fin 256) : lo 64 i.val < 64 := lo_lt (by norm_num) i.isLt
theorem hi_ref32 (i : Fin 256) : hi 32 i.val < 32 := hi_lt i.val (by norm_num)
theorem hi_ref64 (i : Fin 256) : hi 64 i.val < 64 := hi_lt i.val (by norm_num)

theorem coarseMap_at (b : Fin 4) (c : Fin 21) (i j : Fin 256) :
    coarseMap V0 (ix4 b c i j)
      = up 32 (by norm_num) (fun p q => V0 (Proc.devRef .tc main_arg1) (ix4 b c p q)) i j := by
  refine (coarse_blend _ _ _ _ _ _ b c i j _ _ (v24_at V0 i) (v27_at V0 j)).trans ?_
  refine Eq.trans ?_ (up_cols_first 32 (by norm_num) _ i j).symm
  refine congrArg₂ (lerp _) (congrArg₂ (lerp _) ?_ ?_) (congrArg₂ (lerp _) ?_ ?_)
  · exact coarse_sample _ _ _ b c i j ⟨_, lo_ref32 i⟩ ⟨_, lo_ref32 j⟩ (v11_at V0 i) (v11_at V0 j)
  · exact coarse_sample _ _ _ b c i j ⟨_, lo_ref32 i⟩ ⟨_, hi_ref32 j⟩ (v11_at V0 i) (v21_at V0 j)
  · exact coarse_sample _ _ _ b c i j ⟨_, hi_ref32 i⟩ ⟨_, lo_ref32 j⟩ (v21_at V0 i) (v11_at V0 j)
  · exact coarse_sample _ _ _ b c i j ⟨_, hi_ref32 i⟩ ⟨_, hi_ref32 j⟩ (v21_at V0 i) (v21_at V0 j)

theorem fineMap1_at (b : Fin 4) (c : Fin 64) (i j : Fin 256) :
    fineMap1 V0 (ix4 b c i j)
      = up 64 (by norm_num) (fun p q => V0 (Proc.devRef .tc main_arg2) (ix4 b c p q)) i j := by
  refine (fine_blend _ _ _ _ _ _ b c i j _ _ (v85_at V0 i) (v88_at V0 j)).trans ?_
  refine Eq.trans ?_ (up_cols_first 64 (by norm_num) _ i j).symm
  refine congrArg₂ (lerp _) (congrArg₂ (lerp _) ?_ ?_) (congrArg₂ (lerp _) ?_ ?_)
  · exact fine_sample _ _ _ b c i j ⟨_, lo_ref64 i⟩ ⟨_, lo_ref64 j⟩ (v72_at V0 i) (v72_at V0 j)
  · exact fine_sample _ _ _ b c i j ⟨_, lo_ref64 i⟩ ⟨_, hi_ref64 j⟩ (v72_at V0 i) (v82_at V0 j)
  · exact fine_sample _ _ _ b c i j ⟨_, hi_ref64 i⟩ ⟨_, lo_ref64 j⟩ (v82_at V0 i) (v72_at V0 j)
  · exact fine_sample _ _ _ b c i j ⟨_, hi_ref64 i⟩ ⟨_, hi_ref64 j⟩ (v82_at V0 i) (v82_at V0 j)

theorem fineMap2_at (b : Fin 4) (c : Fin 64) (i j : Fin 256) :
    fineMap2 V0 (ix4 b c i j)
      = up 64 (by norm_num) (fun p q => V0 (Proc.devRef .tc main_arg3) (ix4 b c p q)) i j := by
  refine (fine_blend _ _ _ _ _ _ b c i j _ _ (v85_at V0 i) (v88_at V0 j)).trans ?_
  refine Eq.trans ?_ (up_cols_first 64 (by norm_num) _ i j).symm
  refine congrArg₂ (lerp _) (congrArg₂ (lerp _) ?_ ?_) (congrArg₂ (lerp _) ?_ ?_)
  · exact fine_sample _ _ _ b c i j ⟨_, lo_ref64 i⟩ ⟨_, lo_ref64 j⟩ (v72_at V0 i) (v72_at V0 j)
  · exact fine_sample _ _ _ b c i j ⟨_, lo_ref64 i⟩ ⟨_, hi_ref64 j⟩ (v72_at V0 i) (v82_at V0 j)
  · exact fine_sample _ _ _ b c i j ⟨_, hi_ref64 i⟩ ⟨_, lo_ref64 j⟩ (v82_at V0 i) (v72_at V0 j)
  · exact fine_sample _ _ _ b c i j ⟨_, hi_ref64 i⟩ ⟨_, hi_ref64 j⟩ (v82_at V0 i) (v82_at V0 j)

/-- The affinity map as one product with the three groups of channels laid end to end. -/
theorem v185_eq : res_main_v185 (F := Ideal) V0
    = Host.dotGeneral (F := Ideal) (φ₁ := .f32) (φ₂ := .f32) dot_S4x131x256x256_S131_S4x256x256_1_0_023_n_n_n none
        (concatenate S4x131x256x256 1 [⟨S4x3x256x256, V0 (Proc.devRef .tc main_arg0)⟩, ⟨S4x64x256x256, fineMap1 V0⟩, ⟨S4x64x256x256, fineMap2 V0⟩]
          concatenates_S4x3x256x256_S4x64x256x256_S4x64x256x256_S4x131x256x256_d1)
        (shapeCast _ (V0 (Proc.devRef .tc main_arg4)) shapeCasts_S1x131x1x1_S131) := rfl

/-- The affinity map at a position. -/
theorem v185_at (b : Fin 4) (i j : Fin 256) : res_main_v185 (F := Ideal) V0 (ix3 b i j)
    = affinityLate (fun k i j => V0 (Proc.devRef .tc main_arg0) (ix4 b k i j))
        (fun k p q => V0 (Proc.devRef .tc main_arg2) (ix4 b k p q)) (fun k p q => V0 (Proc.devRef .tc main_arg3) (ix4 b k p q))
        (fun k => V0 (Proc.devRef .tc main_arg4) (ix4 0 k 0 0)) i j := by
  rw [v185_eq]
  pointwise []
  refine (sum_groups _).trans ?_
  unfold affinityLate
  refine congrArg₂ (· + ·) ?_ (congrArg₂ (· + ·) ?_ ?_)
  · refine Finset.sum_congr rfl fun k _ => ?_
    rw [dif_pos k.isLt]
  · refine Finset.sum_congr rfl fun k _ => ?_
    rw [dif_neg (by show ¬ k.val + 3 < 3; omega), dif_pos (by show k.val + 3 - 3 < 64; omega)]
    exact congrArg (· * _) ((congrArg (fun e => fineMap1 V0 (ix4 b e i j)) (Fin.ext (Nat.add_sub_cancel _ _))).trans (fineMap1_at V0 b k i j))
  · refine Finset.sum_congr rfl fun k _ => ?_
    rw [dif_neg (by show ¬ k.val + 67 < 3; omega), dif_neg (by show ¬ k.val + 67 - 3 < 64; omega)]
    exact congrArg (· * _) ((congrArg (fun e => fineMap2 V0 (ix4 b e i j)) (Fin.ext (by show k.val + 67 - 3 - 64 = k.val; omega))).trans (fineMap2_at V0 b k i j))

end Cert.RowWindow

end
-- ==== Proof.RefPad.lean ====
/- The reference's three padded maps, read at a position. -/
module

public import proofs.«01_k».proof.Proof.RefAffinity

@[expose] public section

set_option maxRecDepth 16384

noncomputable section

namespace Cert.RowWindow

open Idealize.ShloMosaic Idealize.SL.Sem Cert.ReferenceIdeal Cert.ReferenceIdeal.Gen Cert.ReferenceIdeal.Value

/-- The fill value. -/
theorem zero_fill : (FloatOps.sitofp (F := Ideal) .f32 (0#32 : BitVec 32) : EReal) = 0 := by
  show (((0#32 : BitVec 32).toInt : ℝ) : EReal) = 0
  simp

theorem inside_iff {r q : ℕ} : ((3 ≤ r ∧ r - 3 < 256) ∧ 3 ≤ q ∧ q - 3 < 256) ↔ Inside r q := by
  unfold Inside
  omega

theorem pad_affinity (X : S4x256x256.Idx → EReal) (b : Fin 4) (r q : Fin 262) :
    pad (α := Ideal .f32) S4x262x262 ![0, 3, 3] ![0, 3, 3] ![0, 0, 0] (X : FVec Ideal S4x256x256 .f32) (sitofp (F := Ideal) .f32 (constantI S_ 32 0#32)) pads_S4x256x256_S4x262x262_000_330_330 h_S_
      (ix3 b r q) = padded (fun i j => X (ix3 b i j)) r.val q.val := by
  pointwise []
  unfold padded
  by_cases h : Inside r.val q.val
  · rw [dif_pos (inside_iff.2 h), dif_pos h]
  · rw [dif_neg (fun h' => h (inside_iff.1 h')), dif_neg h]
    exact zero_fill

theorem pad_ones (r q : Fin 262) :
    pad S262x262 ![3, 3] ![3, 3] ![0, 0] (broadcastInDim S256x256 ![] bcast_S_S256x256 (constant (F := Ideal) S_ .f32 0x3F800000#32)) (sitofp (F := Ideal) .f32 (constantI S_ 32 0#32)) pads_S256x256_S262x262_330_330 h_S_
      (ix2 r q) = if Inside r.val q.val then (1 : EReal) else 0 := by
  pointwise []
  by_cases h : Inside r.val q.val
  · rw [dif_pos (inside_iff.2 h), if_pos h]
  · rw [dif_neg (fun h' => h (inside_iff.1 h')), if_neg h]
    exact zero_fill

theorem pad_features (X : S4x21x256x256.Idx → EReal) (b : Fin 4) (c : Fin 21) (r q : Fin 262) :
    pad (α := Ideal .f32) S4x21x262x262 ![0, 0, 3, 3] ![0, 0, 3, 3] ![0, 0, 0, 0] (X : FVec Ideal S4x21x256x256 .f32) (sitofp (F := Ideal) .f32 (constantI S_ 32 0#32)) pads_S4x21x256x256_S4x21x262x262_000_000_330_330 h_S_
      (ix4 b c r q) = padded (fun i j => X (ix4 b c i j)) r.val q.val := by
  pointwise []
  unfold padded
  by_cases h : Inside r.val q.val
  · rw [dif_pos (inside_iff.2 h), dif_pos h]
  · rw [dif_neg (fun h' => h (inside_iff.1 h')), dif_neg h]
    exact zero_fill

/-! ## The windows of the padded maps -/

variable (V0 : Valuation τ sig (Elt Ideal))

/-- The start indices both window gathers take. -/
def starts : IVec S7x256x1 32 := broadcastInDim S7x256x1 ![0, 1] bcast_S7x256_S7x256x1_0_1 (res_main_v196 (F := Ideal) V0)

theorem starts_at (d : Fin 7) (i : Fin 256) : min (starts V0 (ix3 d i 0)).toInt.toNat 261 = i.val + d.val := by
  have h : starts V0 (ix3 d i 0) = BitVec.ofNat 32 (i.val + d.val) := by
    unfold starts
    pointwise []
    exact v196_at V0 d i
  rw [h]
  exact clip_word (by omega) (by norm_num)

theorem window_affinity (P : S4x262x262.Idx → EReal) (b : Fin 4) (d : Fin 7) (i : Fin 256) (e : Fin 7) (j : Fin 256) :
    Host.gather gather_S4x7x256x262_S7x256x1_S4x7x256x7x256_012_3_n_n_3_2_472561
      (Host.gather gather_S4x262x262_S7x256x1_S4x7x256x262_03_1_n_n_1_2_41262 P (starts V0)) (starts V0) (ix5 b d i e j)
      = P (ix3 b ⟨i.val + d.val, by omega⟩ ⟨j.val + e.val, by omega⟩) :=
  (windowCols_at _ _ b d i e j).trans ((windowRows_at _ _ b d i _).trans
    (congrArg₂ (fun r q => P (ix3 b r q)) (Fin.ext (starts_at V0 d i)) (Fin.ext (starts_at V0 e j))))

theorem window_ones (P : S262x262.Idx → EReal) (d : Fin 7) (i : Fin 256) (e : Fin 7) (j : Fin 256) :
    Host.gather gather_S7x256x262_S7x256x1_S7x256x7x256_01_2_n_n_2_2_72561
      (Host.gather gather_S262x262_S7x256x1_S7x256x262_2_0_n_n_0_2_1262 P (starts V0)) (starts V0) (ix4 d i e j)
      = P (ix2 ⟨i.val + d.val, by omega⟩ ⟨j.val + e.val, by omega⟩) :=
  (maskCols_at _ _ d i e j).trans ((maskRows_at _ _ d i _).trans
    (congrArg₂ (fun r q => P (ix2 r q)) (Fin.ext (starts_at V0 d i)) (Fin.ext (starts_at V0 e j))))

theorem window_features (P : S4x21x262x262.Idx → EReal) (b : Fin 4) (c : Fin 21) (d : Fin 7) (i : Fin 256) (e : Fin 7) (j : Fin 256) :
    Host.gather gather_S4x21x7x256x262_S7x256x1_S4x21x7x256x7x256_0123_4_n_n_4_2_42172561
      (Host.gather gather_S4x21x262x262_S7x256x1_S4x21x7x256x262_014_2_n_n_2_2_4211262 P (starts V0)) (starts V0) (ix6 b c d i e j)
      = P (ix4 b c ⟨i.val + d.val, by omega⟩ ⟨j.val + e.val, by omega⟩) :=
  (valueCols_at _ _ b c d i e j).trans ((valueRows_at _ _ b c d i _).trans
    (congrArg₂ (fun r q => P (ix4 b c r q)) (Fin.ext (starts_at V0 d i)) (Fin.ext (starts_at V0 e j))))

end Cert.RowWindow

end
-- ==== Proof.SumTwo.lean ====
/- The reference's two sums over the window's axes, read at an index. -/
module

public import proofs.«01_k».proof.Proof.Gen.ReferenceIdeal
public import Idealize.ShloMosaic.Lib.Pointwise

@[expose] public section

set_option maxRecDepth 16384

noncomputable section

namespace Cert.RowWindow

open Idealize.ShloMosaic Cert.ReferenceIdeal

/-- The sum over the window of the weights. -/
theorem sum_weights (h : S4x7x256x7x256.ReducesTo [1, 3] S4x256x256) (x : S4x7x256x7x256.Idx → EReal) (z : EReal)
    (b : Fin 4) (i j : Fin 256) :
    Ideal.hostReduceAdd h x z (ix3 b i j) = z + ∑ d : Fin 7, ∑ e : Fin 7, x (ix5 b d i e j) := by
  unfold Ideal.hostReduceAdd
  congr 1
  rw [← Fintype.sum_prod_type']
  symm
  refine Finset.sum_nbij' (fun p : Fin 7 × Fin 7 => (ix5 b p.1 i p.2 j : S4x7x256x7x256.Idx))
    (fun y : S4x7x256x7x256.Idx => ((y 1, y 3) : Fin 7 × Fin 7)) ?_ ?_ ?_ ?_ ?_
  · intro p _
    refine Finset.mem_filter.2 ⟨Finset.mem_univ _, ?_⟩
    funext a
    match a with
    | ⟨0, _⟩ => rfl
    | ⟨1, _⟩ => rfl
    | ⟨2, _⟩ => rfl
  · intro y _; exact Finset.mem_univ _
  · intro p _; rfl
  · intro y hy
    have h' := (Finset.mem_filter.1 hy).2
    funext a
    match a with
    | ⟨0, _⟩ => exact (congrFun h' 0).symm
    | ⟨1, _⟩ => rfl
    | ⟨2, _⟩ => exact (congrFun h' 1).symm
    | ⟨3, _⟩ => rfl
    | ⟨4, _⟩ => exact (congrFun h' 2).symm
  · intro p _; rfl

/-- The sum over the window of the weighted features. -/
theorem sum_features (h : S4x21x7x256x7x256.ReducesTo [2, 4] S4x21x256x256) (x : S4x21x7x256x7x256.Idx → EReal) (z : EReal)
    (b : Fin 4) (c : Fin 21) (i j : Fin 256) :
    Ideal.hostReduceAdd h x z (ix4 b c i j) = z + ∑ d : Fin 7, ∑ e : Fin 7, x (ix6 b c d i e j) := by
  unfold Ideal.hostReduceAdd
  congr 1
  rw [← Fintype.sum_prod_type']
  symm
  refine Finset.sum_nbij' (fun p : Fin 7 × Fin 7 => (ix6 b c p.1 i p.2 j : S4x21x7x256x7x256.Idx))
    (fun y : S4x21x7x256x7x256.Idx => ((y 2, y 4) : Fin 7 × Fin 7)) ?_ ?_ ?_ ?_ ?_
  · intro p _
    refine Finset.mem_filter.2 ⟨Finset.mem_univ _, ?_⟩
    funext a
    match a with
    | ⟨0, _⟩ => rfl
    | ⟨1, _⟩ => rfl
    | ⟨2, _⟩ => rfl
    | ⟨3, _⟩ => rfl
  · intro y _; exact Finset.mem_univ _
  · intro p _; rfl
  · intro y hy
    have h' := (Finset.mem_filter.1 hy).2
    funext a
    match a with
    | ⟨0, _⟩ => exact (congrFun h' 0).symm
    | ⟨1, _⟩ => exact (congrFun h' 1).symm
    | ⟨2, _⟩ => rfl
    | ⟨3, _⟩ => exact (congrFun h' 2).symm
    | ⟨4, _⟩ => rfl
    | ⟨5, _⟩ => exact (congrFun h' 3).symm
  · intro p _; rfl

end Cert.RowWindow

end
-- ==== Proof.RefResult.lean ====
/- The reference's result read at an index: the weighted average over the window. -/
module

public import proofs.«01_k».proof.Proof.RefPad
public import proofs.«01_k».proof.Proof.SumTwo

@[expose] public section

set_option maxRecDepth 16384

noncomputable section

namespace Cert.RowWindow

open Idealize.ShloMosaic Idealize.SL.Sem Cert.ReferenceIdeal Cert.ReferenceIdeal.Gen Cert.ReferenceIdeal.Value

variable (V0 : Valuation τ sig (Elt Ideal))

/-- The reference's affinity map of batch entry `b`. -/
def refAffinity (b : Fin 4) (i j : Fin 256) : EReal := res_main_v185 (F := Ideal) V0 (ix3 b i j)

def affinityWindow : FVec Ideal S4x7x256x7x256 .f32 := (Host.gather gather_S4x7x256x262_S7x256x1_S4x7x256x7x256_012_3_n_n_3_2_472561 (Host.gather gather_S4x262x262_S7x256x1_S4x7x256x262_03_1_n_n_1_2_41262 (pad (α := Ideal .f32) S4x262x262 ![0, 3, 3] ![0, 3, 3] ![0, 0, 0] (res_main_v185 (F := Ideal) V0) (sitofp (F := Ideal) .f32 (constantI S_ 32 0#32)) pads_S4x256x256_S4x262x262_000_330_330 h_S_) (starts V0)) (starts V0))

theorem affinityWindow_at (b : Fin 4) (d : Fin 7) (i : Fin 256) (e : Fin 7) (j : Fin 256) :
    affinityWindow V0 (ix5 b d i e j) = padded (refAffinity V0 b) (i.val + d.val) (j.val + e.val) :=
  (window_affinity V0 _ b d i e j).trans (pad_affinity _ b _ _)

def onesWindow : FVec Ideal S7x256x7x256 .f32 := (Host.gather gather_S7x256x262_S7x256x1_S7x256x7x256_01_2_n_n_2_2_72561 (Host.gather gather_S262x262_S7x256x1_S7x256x262_2_0_n_n_0_2_1262 (pad (α := Ideal .f32) S262x262 ![3, 3] ![3, 3] ![0, 0] (broadcastInDim S256x256 ![] bcast_S_S256x256 (constant S_ .f32 0x3F800000#32)) (sitofp (F := Ideal) .f32 (constantI S_ 32 0#32)) pads_S256x256_S262x262_330_330 h_S_) (starts V0)) (starts V0))

theorem onesWindow_at (d : Fin 7) (i : Fin 256) (e : Fin 7) (j : Fin 256) :
    onesWindow V0 (ix4 d i e j) = if Inside (i.val + d.val) (j.val + e.val) then (1 : EReal) else 0 :=
  (window_ones V0 _ d i e j).trans (pad_ones _ _)

def featuresWindow : FVec Ideal S4x21x7x256x7x256 .f32 := (Host.gather gather_S4x21x7x256x262_S7x256x1_S4x21x7x256x7x256_0123_4_n_n_4_2_42172561 (Host.gather gather_S4x21x262x262_S7x256x1_S4x21x7x256x262_014_2_n_n_2_2_4211262 (pad (α := Ideal .f32) S4x21x262x262 ![0, 0, 3, 3] ![0, 0, 3, 3] ![0, 0, 0, 0] (coarseMap V0) (sitofp (F := Ideal) .f32 (constantI S_ 32 0#32)) pads_S4x21x256x256_S4x21x262x262_000_000_330_330 h_S_) (starts V0)) (starts V0))

theorem featuresWindow_at (b : Fin 4) (c : Fin 21) (d : Fin 7) (i : Fin 256) (e : Fin 7) (j : Fin 256) :
    featuresWindow V0 (ix6 b c d i e j)
      = padded (up 32 (by norm_num) (fun p q => V0 (Proc.devRef .tc main_arg1) (ix4 b c p q))) (i.val + d.val) (j.val + e.val) := by
  refine (window_features V0 _ b c d i e j).trans ((pad_features _ b c _ _).trans ?_)
  refine congrArg (fun X => padded X _ _) (funext fun i => funext fun j => ?_)
  exact coarseMap_at V0 b c i j

theorem v212_eq : (res_main_v212 (F := Ideal) V0 : FVec Ideal S4x7x256x7x256 .f32) = mulf (Host.exp (Host.absf (subf (broadcastInDim S4x7x256x7x256 ![0, 1, 2, 3, 4] bcast_S4x1x256x1x256_S4x7x256x7x256_0_1_2_3_4 (broadcastInDim S4x1x256x1x256 ![0, 2, 4] bcast_S4x256x256_S4x1x256x1x256_0_2_4 (res_main_v185 (F := Ideal) V0))) (affinityWindow V0)))) (broadcastInDim S4x7x256x7x256 ![0, 1, 2, 3, 4] bcast_S1x7x256x7x256_S4x7x256x7x256_0_1_2_3_4 (broadcastInDim S1x7x256x7x256 ![1, 2, 3, 4] bcast_S7x256x7x256_S1x7x256x7x256_1_2_3_4 (onesWindow V0))) := rfl

/-- A weight of the reference. -/
theorem v212_at (b : Fin 4) (d : Fin 7) (i : Fin 256) (e : Fin 7) (j : Fin 256) :
    res_main_v212 (F := Ideal) V0 (ix5 b d i e j) = weight (refAffinity V0 b) i j d.val e.val := by
  rw [v212_eq]
  pointwise []
  rw [affinityWindow_at, onesWindow_at]
  unfold weight
  split_ifs
  · exact mul_one (M := EReal) _
  · exact mul_zero (M₀ := EReal) _

/-- The total of a window. -/
theorem total_at (b : Fin 4) (i j : Fin 256) :
    Ideal.hostReduceAdd reducesTo_S4x7x256x7x256_S4x256x256_d1_3 (res_main_v212 (F := Ideal) V0 : S4x7x256x7x256.Idx → EReal) 0
      (ix3 b i j) = total (refAffinity V0 b) i j := by
  refine (sum_weights _ _ _ b i j).trans ((zero_add _).trans ?_)
  exact Finset.sum_congr rfl fun d _ => Finset.sum_congr rfl fun e _ => v212_at V0 b d i e j

/-- The reference's weights divided by their total. -/
def shares : FVec Ideal S4x7x256x7x256 .f32 := (Host.divf (res_main_v212 (F := Ideal) V0) (broadcastInDim S4x7x256x7x256 ![0, 1, 2, 3, 4] bcast_S4x1x256x1x256_S4x7x256x7x256_0_1_2_3_4 (broadcastInDim S4x1x256x1x256 ![0, 2, 4] bcast_S4x256x256_S4x1x256x1x256_0_2_4 (Host.reduceAdd (res_main_v212 (F := Ideal) V0) (constant S_ .f32 0x00000000#32) reducesTo_S4x7x256x7x256_S4x256x256_d1_3 h_S_))))

theorem shares_at (b : Fin 4) (d : Fin 7) (i : Fin 256) (e : Fin 7) (j : Fin 256) :
    shares V0 (ix5 b d i e j) = Ideal.div (weight (refAffinity V0 b) i j d.val e.val) (total (refAffinity V0 b) i j) := by
  unfold shares
  pointwise []
  exact congrArg₂ Ideal.div (v212_at V0 b d i e j) (total_at V0 b i j)

def products : FVec Ideal S4x21x7x256x7x256 .f32 := ((mulf (broadcastInDim S4x21x7x256x7x256 ![0, 1, 2, 3, 4, 5] bcast_S4x1x7x256x7x256_S4x21x7x256x7x256_0_1_2_3_4_5 (broadcastInDim S4x1x7x256x7x256 ![0, 2, 3, 4, 5] bcast_S4x7x256x7x256_S4x1x7x256x7x256_0_2_3_4_5 (shares V0))) (featuresWindow V0)) : FVec Ideal _ .f32)

theorem products_at (b : Fin 4) (c : Fin 21) (d : Fin 7) (i : Fin 256) (e : Fin 7) (j : Fin 256) :
    products V0 (ix6 b c d i e j) = shares V0 (ix5 b d i e j) * featuresWindow V0 (ix6 b c d i e j) := by
  unfold products
  pointwise []

/-- The reference's result. -/
def refOut : FVec Ideal S4x65536x21 .f32 := transpose S4x65536x21 [0, 2, 1] (shapeCast _ (Host.reduceAdd (products V0) (constant S_ .f32 0x00000000#32) reducesTo_S4x21x7x256x7x256_S4x21x256x256_d2_4 h_S_) shapeCasts_S4x21x256x256_S4x21x65536) transposes_S4x21x65536_S4x65536x21_0_2_1

/-- The affinity map in terms of the arguments. -/
theorem refAffinity_eq (b : Fin 4) :
    refAffinity V0 b = affinityLate (fun k i j => V0 (Proc.devRef .tc main_arg0) (ix4 b k i j))
        (fun k p q => V0 (Proc.devRef .tc main_arg2) (ix4 b k p q)) (fun k p q => V0 (Proc.devRef .tc main_arg3) (ix4 b k p q))
        (fun k => V0 (Proc.devRef .tc main_arg4) (ix4 0 k 0 0)) :=
  funext fun i => funext fun j => v185_at V0 b i j

/-- The reference's result at an index. -/
theorem refOut_at (b : Fin 4) (n : Fin 65536) (c : Fin 21) :
    refOut V0 (ix3 b n c)
      = average (refAffinity V0 b) (up 32 (by norm_num) (fun p q => V0 (Proc.devRef .tc main_arg1) (ix4 b c p q)))
          ⟨n.val / 256, by omega⟩ ⟨n.val % 256, by omega⟩ := by
  unfold refOut
  pointwise []
  refine (sum_features _ _ _ b c _ _).trans ((zero_add _).trans ?_)
  rw [average_eq]
  refine Finset.sum_congr rfl fun d _ => Finset.sum_congr rfl fun e _ => ?_
  rw [products_at, shares_at, featuresWindow_at]

end Cert.RowWindow

end
-- ==== Proof.Finite.lean ====
/- What the precondition says: the weights of the low-level maps are real numbers. -/
module

public import proofs.«01_k».proof.Proof.Gen.Pre_finite_weights
public import Idealize.ShloMosaic.Lib.ReduceAll
public import Idealize.ShloMosaic.Lib.Pointwise

@[expose] public section

set_option maxRecDepth 16384

noncomputable section

namespace Cert.RowWindow

open Idealize.ShloMosaic Cert.Pre_finite_weights

/-- The printed bound is infinity. -/
theorem word_inf : Ideal.ofBits .f32 0x7F800000#32 = (⊤ : EReal) := by
  simp [Ideal.ofBits, Ideal.ieee]

/-- An extended real whose distance to zero is not infinite is a real number. -/
theorem real_of_abs {x : EReal} (h : max x (-x) < ⊤) : ∃ r : ℝ, x = r := by
  induction x using EReal.rec with
  | bot => exact absurd h (by simp)
  | coe r => exact ⟨r, rfl⟩
  | top => exact absurd h (by simp)

/-- The printed comparison. -/
theorem real_of_bit {x : EReal} (h : BitVec.ofBool (decide (max x (-x) < Ideal.ofBits .f32 0x7F800000#32)) = 1#1) : ∃ r : ℝ, x = r := by
  rw [word_inf] at h
  refine real_of_abs ?_
  by_contra hn
  rw [decide_eq_false hn] at h
  exact absurd h (by decide)

instance : Subsingleton S_.Idx := ⟨fun a b => funext fun i => i.elim0⟩

variable (A : FVec Ideal S4x3x256x256 .f32) (B : FVec Ideal S4x21x32x32 .f32) (C D : FVec Ideal S4x64x64x64 .f32)
  (W : FVec Ideal S1x131x1x1 .f32)

/-- The weights that the precondition reads. -/
theorem slice_at (k : Fin 128) :
    extractStridedSlice S1x128x1x1 ![0, 3, 0, 0] W Facts.slices_S1x131x1x1_S1x128x1x1_0_3_0_0 (ix4 0 k 0 0)
      = W (ix4 0 ⟨3 + k.val, by omega⟩ 0 0) := by
  pointwise []

theorem parts (h : fn (F := Ideal) A B C D W = fun _ => 1#1) (k : Fin 128) :
    ∃ r : ℝ, W (ix4 0 ⟨3 + k.val, by omega⟩ 0 0) = r := by
  have e := congrFun h (fun i => i.elim0)
  unfold fn at e
  obtain ⟨r, hr⟩ := real_of_bit (Host.reduce_andi_all _ _ _ _ _ e (ix4 0 k 0 0))
  exact ⟨r, (slice_at W k).symm.trans hr⟩

end Cert.RowWindow
-- ==== Proof.Unbounded.lean ====
/- Low-level maps with infinite values. An infinite term makes a sum infinite, of one sign or the other, so combining the
   maps before the interpolation or after it is infinite at the same positions, and equal at all others; and an affinity
   weight does not see the sign of an infinite value. -/
module

public import proofs.«01_k».proof.Proof.Spec

@[expose] public section

noncomputable section

namespace Cert.RowWindow

open Idealize.ShloMosaic

/-- One of the two infinities. -/
def Unbounded (a : EReal) : Prop := a = ⊤ ∨ a = ⊥

theorem unbounded_add (a b : EReal) : Unbounded (a + b) ↔ Unbounded a ∨ Unbounded b := by
  unfold Unbounded
  induction a using EReal.rec <;> induction b using EReal.rec <;> simp [← EReal.coe_add]

theorem unbounded_neg (a : EReal) : Unbounded (-a) ↔ Unbounded a := by
  unfold Unbounded
  induction a using EReal.rec <;> simp [← EReal.coe_neg]

theorem unbounded_mul (a : EReal) (r : ℝ) : Unbounded (a * (r : EReal)) ↔ Unbounded a ∧ r ≠ 0 := by
  unfold Unbounded
  rcases lt_trichotomy r 0 with h | h | h
  · induction a using EReal.rec <;>
      simp [← EReal.coe_mul, EReal.top_mul_coe_of_neg h, EReal.bot_mul_coe_of_neg h, h.ne]
  · subst h
    simp
  · induction a using EReal.rec <;>
      simp [← EReal.coe_mul, EReal.top_mul_coe_of_pos h, EReal.bot_mul_coe_of_pos h, h.ne']

theorem unbounded_sum {ι : Type} (s : Finset ι) (f : ι → EReal) : Unbounded (∑ k ∈ s, f k) ↔ ∃ k ∈ s, Unbounded (f k) := by
  classical
  induction s using Finset.induction_on with
  | empty => simp [Unbounded]
  | insert a s ha ih => rw [Finset.sum_insert ha, unbounded_add, ih, Finset.exists_mem_insert]

theorem unbounded_lerp (w : ℝ) (a b : EReal) :
    Unbounded (lerp w a b) ↔ (Unbounded a ∧ 1 - w ≠ 0) ∨ (Unbounded b ∧ w ≠ 0) := by
  unfold lerp
  rw [unbounded_add, unbounded_mul, unbounded_mul]

/-! ## Values that are the same unless infinite -/

/-- `b` is the value of `a` unless `a` is infinite. -/
def Tame (a b : EReal) : Prop := ¬ Unbounded a → a = b

theorem tame_toReal (a : EReal) : Tame a (a.toReal : EReal) := fun h =>
  (EReal.coe_toReal (fun e => h (Or.inl e)) (fun e => h (Or.inr e))).symm

theorem Tame.add {a b a' b' : EReal} (h : Tame a a') (h' : Tame b b') : Tame (a + b) (a' + b') := fun hn => by
  rw [unbounded_add, not_or] at hn
  rw [h hn.1, h' hn.2]

theorem Tame.mul {a a' : EReal} (h : Tame a a') (r : ℝ) : Tame (a * (r : EReal)) (a' * (r : EReal)) := fun hn => by
  by_cases hr : r = 0
  · subst hr
    simp
  · rw [h fun hu => hn ((unbounded_mul a r).2 ⟨hu, hr⟩)]

theorem Tame.sum {ι : Type} (s : Finset ι) {f g : ι → EReal} (h : ∀ k, Tame (f k) (g k)) :
    Tame (∑ k ∈ s, f k) (∑ k ∈ s, g k) := fun hn =>
  Finset.sum_congr rfl fun k hk => h k fun hu => hn ((unbounded_sum s f).2 ⟨k, hk, hu⟩)

theorem Tame.lerp {a b a' b' : EReal} (h : Tame a a') (h' : Tame b b') (w : ℝ) : Tame (lerp w a b) (lerp w a' b') :=
  (h.mul _).add (h'.mul _)

theorem Tame.up (S : ℕ) (hS : 0 < S) {X Y : Fin S → Fin S → EReal} (h : ∀ p q, Tame (X p q) (Y p q)) (i j : Fin 256) :
    Tame (up S hS X i j) (up S hS Y i j) :=
  ((h _ _).lerp (h _ _) _).lerp ((h _ _).lerp (h _ _) _) _

/-! ## Values that differ in the sign of an infinity at most -/

def Alike (a b : EReal) : Prop := a = b ∨ (Unbounded a ∧ Unbounded b)

theorem Alike.add_left {a b : EReal} (h : Alike a b) (x : EReal) : Alike (x + a) (x + b) := by
  rcases h with rfl | ⟨h, h'⟩
  · exact Or.inl rfl
  · exact Or.inr ⟨(unbounded_add _ _).2 (Or.inr h), (unbounded_add _ _).2 (Or.inr h')⟩

theorem dist_of_unbounded {a b : EReal} (h : Unbounded a ∨ Unbounded b) : dist a b = ⊤ := by
  have hu : Unbounded (a - b) := by
    rw [sub_eq_add_neg, unbounded_add, unbounded_neg]
    exact h
  unfold dist
  rcases hu with e | e <;> rw [e] <;> simp

theorem dist_alike {a b a' b' : EReal} (h : Alike a a') (h' : Alike b b') : dist a b = dist a' b' := by
  rcases h with rfl | ⟨h, hh⟩
  · rcases h' with rfl | ⟨h', hh'⟩
    · rfl
    · rw [dist_of_unbounded (Or.inr h'), dist_of_unbounded (Or.inr hh')]
  · rw [dist_of_unbounded (Or.inl h), dist_of_unbounded (Or.inl hh)]

variable {F G : Fin 256 → Fin 256 → EReal}

theorem padded_alike (h : ∀ i j, Alike (F i j) (G i j)) (r q : ℕ) : Alike (padded F r q) (padded G r q) := by
  unfold padded
  split_ifs
  · exact h _ _
  · exact Or.inl rfl

theorem weight_alike (h : ∀ i j, Alike (F i j) (G i j)) (i j : Fin 256) (d e : ℕ) : weight F i j d e = weight G i j d e := by
  unfold weight
  rw [dist_alike (h i j) (padded_alike h _ _)]

/-- The weighted average does not see the signs of the infinite values of the affinity map. -/
theorem average_alike (h : ∀ i j, Alike (F i j) (G i j)) (V : Fin 256 → Fin 256 → EReal) (i j : Fin 256) :
    average F V i j = average G V i j := by
  unfold average total
  simp only [weight_alike h]

/-! ## The two affinity maps -/

theorem unbounded_up (S : ℕ) (hS : 0 < S) (X : Fin S → Fin S → EReal) (i j : Fin 256) :
    Unbounded (up S hS X i j) ↔ ∃ p q, Unbounded (X p q) ∧
      ((p = ⟨lo S i.val, lo_lt hS i.isLt⟩ ∧ 1 - fr S i.val ≠ 0) ∨ (p = ⟨hi S i.val, hi_lt i.val hS⟩ ∧ fr S i.val ≠ 0)) ∧
      ((q = ⟨lo S j.val, lo_lt hS j.isLt⟩ ∧ 1 - fr S j.val ≠ 0) ∨ (q = ⟨hi S j.val, hi_lt j.val hS⟩ ∧ fr S j.val ≠ 0)) := by
  unfold up
  simp only [unbounded_lerp]
  constructor
  · rintro (⟨⟨h, hw⟩ | ⟨h, hw⟩, hv⟩ | ⟨⟨h, hw⟩ | ⟨h, hw⟩, hv⟩)
    · exact ⟨_, _, h, Or.inl ⟨rfl, hw⟩, Or.inl ⟨rfl, hv⟩⟩
    · exact ⟨_, _, h, Or.inr ⟨rfl, hw⟩, Or.inl ⟨rfl, hv⟩⟩
    · exact ⟨_, _, h, Or.inl ⟨rfl, hw⟩, Or.inr ⟨rfl, hv⟩⟩
    · exact ⟨_, _, h, Or.inr ⟨rfl, hw⟩, Or.inr ⟨rfl, hv⟩⟩
  · rintro ⟨p, q, h, ⟨rfl, hw⟩ | ⟨rfl, hw⟩, ⟨rfl, hv⟩ | ⟨rfl, hv⟩⟩
    · exact Or.inl ⟨Or.inl ⟨h, hw⟩, hv⟩
    · exact Or.inr ⟨Or.inl ⟨h, hw⟩, hv⟩
    · exact Or.inl ⟨Or.inr ⟨h, hw⟩, hv⟩
    · exact Or.inr ⟨Or.inr ⟨h, hw⟩, hv⟩

/-- Combining maps with real weights before the interpolation and after it is infinite at the same positions. -/
theorem unbounded_groups {ι : Type} [Fintype ι] (S : ℕ) (hS : 0 < S) (X Y : ι → Fin S → Fin S → EReal) (v w : ι → ℝ)
    (i j : Fin 256) :
    Unbounded (up S hS (fun p q => (∑ k, X k p q * (v k : EReal)) + ∑ k, Y k p q * (w k : EReal)) i j)
      ↔ Unbounded ((∑ k, up S hS (X k) i j * (v k : EReal)) + ∑ k, up S hS (Y k) i j * (w k : EReal)) := by
  simp only [unbounded_add, unbounded_sum, unbounded_mul, unbounded_up]
  constructor
  · rintro ⟨p, q, ⟨k, hk, h, hv⟩ | ⟨k, hk, h, hv⟩, hp, hq⟩
    · exact Or.inl ⟨k, hk, ⟨p, q, h, hp, hq⟩, hv⟩
    · exact Or.inr ⟨k, hk, ⟨p, q, h, hp, hq⟩, hv⟩
  · rintro (⟨k, hk, ⟨p, q, h, hp, hq⟩, hv⟩ | ⟨k, hk, ⟨p, q, h, hp, hq⟩, hv⟩)
    · exact ⟨p, q, Or.inl ⟨k, hk, h, hv⟩, hp, hq⟩
    · exact ⟨p, q, Or.inr ⟨k, hk, h, hv⟩, hp, hq⟩

/-- The two orders agree up to the sign of an infinite value. -/
theorem groups_alike {ι : Type} [Fintype ι] (S : ℕ) (hS : 0 < S) (X Y : ι → Fin S → Fin S → EReal) (v w : ι → EReal)
    (hv : ∀ k, ∃ r : ℝ, v k = r) (hw : ∀ k, ∃ r : ℝ, w k = r) (i j : Fin 256) :
    Alike (up S hS (fun p q => (∑ k, X k p q * v k) + ∑ k, Y k p q * w k) i j)
      ((∑ k, up S hS (X k) i j * v k) + ∑ k, up S hS (Y k) i j * w k) := by
  choose v' hv' using hv
  choose w' hw' using hw
  obtain rfl : v = fun k => (v' k : EReal) := funext hv'
  obtain rfl : w = fun k => (w' k : EReal) := funext hw'
  by_cases h : Unbounded (up S hS (fun p q => (∑ k, X k p q * (v' k : EReal)) + ∑ k, Y k p q * (w' k : EReal)) i j)
  · exact Or.inr ⟨h, (unbounded_groups S hS X Y v' w' i j).1 h⟩
  · have h' := fun hu => h ((unbounded_groups S hS X Y v' w' i j).2 hu)
    have e := up_sum_two S hS (fun k p q => ((X k p q).toReal : EReal)) (fun k p q => ((Y k p q).toReal : EReal))
      (fun k => (v' k : EReal)) (fun k => (w' k : EReal)) (fun _ _ _ => ⟨_, rfl⟩) (fun _ _ _ => ⟨_, rfl⟩)
      (fun _ => ⟨_, rfl⟩) (fun _ => ⟨_, rfl⟩) i j
    have e1 := Tame.up S hS (fun p q => (Tame.sum Finset.univ fun k => (tame_toReal (X k p q)).mul (v' k)).add
      (Tame.sum Finset.univ fun k => (tame_toReal (Y k p q)).mul (w' k))) i j h
    have e2 := (Tame.sum Finset.univ fun k => (Tame.up S hS (fun p q => tame_toReal (X k p q)) i j).mul (v' k)).add
      (Tame.sum Finset.univ fun k => (Tame.up S hS (fun p q => tame_toReal (Y k p q)) i j).mul (w' k)) h'
    exact Or.inl (e1.trans (e.trans e2.symm))

/-- The two affinity maps agree up to the sign of an infinite value, for real weights of the low-level maps. -/
theorem affinity_alike (X : Fin 3 → Fin 256 → Fin 256 → EReal) (C D : Fin 64 → Fin 64 → Fin 64 → EReal) (w : Fin 131 → EReal)
    (hw : ∀ k : Fin 131, 3 ≤ k.val → ∃ r : ℝ, w k = r) (i j : Fin 256) :
    Alike (affinity X C D w i j) (affinityLate X C D w i j) :=
  (groups_alike 64 (by norm_num) C D (fun k => w ⟨k.val + 3, by omega⟩) (fun k => w ⟨k.val + 67, by omega⟩)
    (fun k => hw _ (Nat.le_add_left _ _)) (fun k => hw _ (by show 3 ≤ k.val + 67; omega)) i j).add_left _

end Cert.RowWindow

end
-- ==== Proof.Agree.lean ====
/- The two programs' results agree at every index when the weights of the low-level maps are real numbers. -/
module

public import proofs.«01_k».proof.Proof.KernelArray
public import proofs.«01_k».proof.Proof.RefResult
public import proofs.«01_k».proof.Proof.Finite
public import proofs.«01_k».proof.Proof.Unbounded

@[expose] public section

set_option maxRecDepth 16384

noncomputable section

namespace Cert.RowWindow

open Idealize.ShloMosaic Idealize.SL.Sem

/-- The two closed forms of one result. -/
theorem forms_agree (X X' : FVec Ideal Cert.KernelIdeal.S4x3x256x256 .f32) (V V' : FVec Ideal Cert.KernelIdeal.S4x21x32x32 .f32)
    (C C' D D' : FVec Ideal Cert.KernelIdeal.S4x64x64x64 .f32) (W W' : FVec Ideal Cert.KernelIdeal.S1x131x1x1 .f32)
    (hX : X' = X) (hV : V' = V) (hC : C' = C) (hD : D' = D) (hW : W' = W)
    (hpre : Cert.Pre_finite_weights.fn (F := Ideal) X V C D W = fun _ => 1#1) (b : Fin 4) (k : Fin 21) (i j : Fin 256) :
    average (affinityLate (fun k i j => X' (ix4 b k i j)) (fun k p q => C' (ix4 b k p q)) (fun k p q => D' (ix4 b k p q))
        (fun k => W' (ix4 0 k 0 0))) (up 32 (by norm_num) (fun p q => V' (ix4 b k p q))) i j
      = result (fun k i j => X (ix4 b k i j)) (fun k p q => C (ix4 b k p q)) (fun k p q => D (ix4 b k p q))
        (fun k => W (ix4 0 k 0 0)) (fun p q => V (ix4 b k p q)) i j := by
  subst hX hV hC hD hW
  unfold result
  refine (average_alike (fun a d => affinity_alike _ _ _ _ ?_ a d) _ i j).symm
  intro l hl
  obtain ⟨r, hr⟩ := parts _ _ _ _ _ hpre ⟨l.val - 3, by omega⟩
  refine ⟨r, Eq.trans (congrArg (fun l => W' (ix4 0 l 0 0)) (Fin.ext ?_)) hr⟩
  show l.val = 3 + (l.val - 3)
  omega

open Cert.ReferenceIdeal in
/-- The reference's result over its arguments. -/
theorem reference_at (V0 : Valuation τ sig (Elt Ideal)) (b : Fin 4) (n : Fin 65536) (c : Fin 21) :
    refOut V0 (ix3 b n c)
      = average (affinityLate (fun k i j => V0 (Proc.devRef .tc main_arg0) (ix4 b k i j))
          (fun k p q => V0 (Proc.devRef .tc main_arg2) (ix4 b k p q)) (fun k p q => V0 (Proc.devRef .tc main_arg3) (ix4 b k p q))
          (fun k => V0 (Proc.devRef .tc main_arg4) (ix4 0 k 0 0)))
        (up 32 (by norm_num) (fun p q => V0 (Proc.devRef .tc main_arg1) (ix4 b c p q))) ⟨n.val / 256, by omega⟩ ⟨n.val % 256, by omega⟩ := by
  rw [refOut_at, refAffinity_eq]

/-- The results at an index. -/
theorem entries_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (hpre : Cert.Pre_finite_weights.fn (F := Ideal) (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)) = fun _ => 1#1)
    (y : Cert.KernelIdeal.S4x65536x21.Idx) :
    (refOut (StableHlo.launchContents m' c) : Cert.KernelIdeal.S4x65536x21.Idx → EReal) y = kernelOut m c y := by
  have hy : y = ix3 (y 0) (y 1) (y 2) := by
    funext a
    fin_cases a <;> rfl
  rw [hy]
  refine Eq.trans ?_ (kernelOut_at m c (y 0) (y 1) (y 2)).symm
  refine (reference_at (StableHlo.launchContents m' c) (y 0) (y 1) (y 2)).trans ?_
  exact forms_agree _ _ _ _ _ _ _ _ _ _ h0 h1 h2 h3 h4 hpre (y 0) (y 2) _ _

end Cert.RowWindow
-- ==== Proof.lean ====
/- The proof of the claim: the frames are the generated ones, and the result arrays of the two programs agree at every index. -/
module

public import proofs.«01_k».proof.Defs
public import proofs.«01_k».proof.Proof.Gen.Pre_finite_weights
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Agree
public import Idealize.ShloMosaic.Lib.Claim
public import Idealize.ShloMosaic.Adequacy
public import Idealize.ShloMosaic.Init

@[expose] public section

noncomputable section

set_option maxHeartbeats 2000000

namespace Cert.Proof

open Idealize.ShloMosaic Idealize.SL.Sem Cert.RowWindow

/-- Both programs run, and their results are equal at every index. -/
theorem algebraic : Cert.algebraic_KernelIdeal_ReferenceIdeal_pre_finite_weights := by
  intro m g m' g' hpre hagree
  refine ⟨fun c => kernelOut m c, kernel_run m g, ?_⟩
  refine θ_run_mono (Cert.ReferenceIdeal.Value.run m' g') fun r hr c => ?_
  obtain ⟨h0, h1, h2, h3, h4⟩ := hagree c
  exact ⟨(hr c).1.trans (funext fun y => entries_agree m m' c h0 h1 h2 h3 h4 (hpre c) y), (hr c).2⟩

/-- The reference's run leaves its arguments as they were, and it has no counters. -/
theorem reference_frame : Cert.quiescent_ReferenceIdeal := fun m g _ =>
  θ_run_mono (Cert.ReferenceIdeal.Value.run m g) fun r hr => ⟨fun c => (hr c).2, sem_eq_zero_of_no_sems (by decide) _⟩

theorem claim : Cert.Claim := ⟨Cert.Kernel.Gen.facts, Cert.KernelIdeal.Gen.facts, Cert.ReferenceIdeal.Gen.facts,
  Cert.Pre_finite_weights.Gen.facts, fun m ρ _ => Cert.Kernel.Gen.frame m ρ, fun m ρ _ => Cert.KernelIdeal.Gen.frame m ρ,
  fun m ρ _ => Cert.KernelIdeal.Gen.frame m ρ, reference_frame, fun m ρ _ => reference_frame m ρ trivial, trivial, algebraic⟩

end Cert.Proof

end
